-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096x200x5 : Shape := ⟨3, ![4096, 200, 5]⟩
abbrev S256x32 : Shape := ⟨2, ![256, 32]⟩
abbrev S64x32 : Shape := ⟨2, ![64, 32]⟩
abbrev S2x8 : Shape := ⟨2, ![2, 8]⟩
abbrev S1x32 : Shape := ⟨2, ![1, 32]⟩
abbrev S32 : Shape := ⟨1, ![32]⟩
abbrev S136x256 : Shape := ⟨2, ![136, 256]⟩
abbrev S256 : Shape := ⟨1, ![256]⟩
abbrev S4096x200x2 : Shape := ⟨3, ![4096, 200, 2]⟩
abbrev S_ : Shape := ⟨0, ![]⟩
abbrev S1x8 : Shape := ⟨2, ![1, 8]⟩
abbrev S8 : Shape := ⟨1, ![8]⟩
abbrev S72x256 : Shape := ⟨2, ![72, 256]⟩

class Facts : Prop where
  slices_S4096x200x5_S4096x200x2_0_0_1 : S4096x200x5.Slices ![0, 0, 1] S4096x200x2
  bcast_S_S4096x200x2 : S_.BroadcastsInDim S4096x200x2 (![] : Fin 0 → Fin S4096x200x2.rank)
  reducesTo_S4096x200x2_S_d0_1_2 : S4096x200x2.ReducesTo [0, 1, 2] S_
  h_S_ : 0 < S_.numel
  slices_S2x8_S1x8_0_0 : S2x8.Slices ![0, 0] S1x8
  shapeCasts_S1x8_S8 : S1x8.ShapeCasts S8
  bcast_S_S8 : S_.BroadcastsInDim S8 (![] : Fin 0 → Fin S8.rank)
  reducesTo_S8_S_d0 : S8.ReducesTo [0] S_
  slices_S136x256_S72x256_64_0 : S136x256.Slices ![64, 0] S72x256
  bcast_S_S72x256 : S_.BroadcastsInDim S72x256 (![] : Fin 0 → Fin S72x256.rank)
  reducesTo_S72x256_S_d0_1 : S72x256.ReducesTo [0, 1] S_

variable [Facts]

def fn {F : FTy → Type} [FloatOps F] (main_arg0 : FVec F S4096x200x5 .f32) (main_arg1 : FVec F S256x32 .f32) (main_arg2 : FVec F S64x32 .f32) (main_arg3 : FVec F S2x8 .f32) (main_arg4 : FVec F S1x32 .f32) (main_arg5 : FVec F S32 .f32) (main_arg6 : FVec F S1x32 .f32) (main_arg7 : FVec F S32 .f32) (main_arg8 : FVec F S136x256 .f32) (main_arg9 : FVec F S256 .f32) (main_arg10 : FVec F S256 .f32) (main_arg11 : FVec F S256 .f32) : IVec S_ 1 :=
  let main_v0 : FVec F S4096x200x2 .f32 := (extractStridedSlice S4096x200x2 ![0, 0, 1] · slices_S4096x200x5_S4096x200x2_0_0_1) main_arg0
  let main_v1 : FVec F S4096x200x2 .f32 := Host.absf main_v0
  let main_cst : FVec F S_ .f32 := constant S_ .f32 0x7F800000#32
  let main_v2 : FVec F S4096x200x2 .f32 := broadcastInDim S4096x200x2 ![] bcast_S_S4096x200x2 main_cst
  let main_v3 : IVec S4096x200x2 1 := cmpf .olt main_v1 main_v2
  let main_c : IVec S_ 1 := constantI S_ 1 1#1
  let main_v4 : IVec S_ 1 := (fun x v => Host.reduce IntOp.andi x v reducesTo_S4096x200x2_S_d0_1_2 h_S_) main_v3 main_c
  let main_v5 : FVec F S1x8 .f32 := (extractStridedSlice S1x8 ![0, 0] · slices_S2x8_S1x8_0_0) main_arg3
  let main_v6 : FVec F S8 .f32 := shapeCast S8 main_v5 shapeCasts_S1x8_S8
  let main_v7 : FVec F S8 .f32 := Host.absf main_v6
  let main_cst_0 : FVec F S_ .f32 := constant S_ .f32 0x7F800000#32
  let main_v8 : FVec F S8 .f32 := broadcastInDim S8 ![] bcast_S_S8 main_cst_0
  let main_v9 : IVec S8 1 := cmpf .olt main_v7 main_v8
  let main_c_1 : IVec S_ 1 := constantI S_ 1 1#1
  let main_v10 : IVec S_ 1 := (fun x v => Host.reduce IntOp.andi x v reducesTo_S8_S_d0 h_S_) main_v9 main_c_1
  let main_v11 : IVec S_ 1 := andi main_v4 main_v10
  let main_v12 : FVec F S72x256 .f32 := (extractStridedSlice S72x256 ![64, 0] · slices_S136x256_S72x256_64_0) main_arg8
  let main_v13 : FVec F S72x256 .f32 := Host.absf main_v12
  let main_cst_2 : FVec F S_ .f32 := constant S_ .f32 0x7F800000#32
  let main_v14 : FVec F S72x256 .f32 := broadcastInDim S72x256 ![] bcast_S_S72x256 main_cst_2
  let main_v15 : IVec S72x256 1 := cmpf .olt main_v13 main_v14
  let main_c_3 : IVec S_ 1 := constantI S_ 1 1#1
  let main_v16 : IVec S_ 1 := (fun x v => Host.reduce IntOp.andi x v reducesTo_S72x256_S_d0_1 h_S_) main_v15 main_c_3
  let main_v17 : IVec S_ 1 := andi main_v11 main_v16
  main_v17
-- ==== Kernel.lean ====
abbrev S4096x200x5 : Shape := ⟨3, ![4096, 200, 5]⟩
abbrev S256x32 : Shape := ⟨2, ![256, 32]⟩
abbrev S64x32 : Shape := ⟨2, ![64, 32]⟩
abbrev S2x8 : Shape := ⟨2, ![2, 8]⟩
abbrev S1x32 : Shape := ⟨2, ![1, 32]⟩
abbrev S32 : Shape := ⟨1, ![32]⟩
abbrev S136x256 : Shape := ⟨2, ![136, 256]⟩
abbrev S256 : Shape := ⟨1, ![256]⟩
abbrev S819200x5 : Shape := ⟨2, ![819200, 5]⟩
abbrev S5x819200 : Shape := ⟨2, ![5, 819200]⟩
abbrev S_ : Shape := ⟨0, ![]⟩
abbrev S8x819200 : Shape := ⟨2, ![8, 819200]⟩
abbrev S8x8 : Shape := ⟨2, ![8, 8]⟩
abbrev S6x32 : Shape := ⟨2, ![6, 32]⟩
abbrev S8x32 : Shape := ⟨2, ![8, 32]⟩
abbrev S1x256 : Shape := ⟨2, ![1, 256]⟩
abbrev S64 : Shape := ⟨1, ![64]⟩
abbrev S1x64 : Shape := ⟨2, ![1, 64]⟩
abbrev S819200x256 : Shape := ⟨2, ![819200, 256]⟩
abbrev S8x16384 : Shape := ⟨2, ![8, 16384]⟩
abbrev S16384x256 : Shape := ⟨2, ![16384, 256]⟩
abbrev S336x256 : Shape := ⟨2, ![336, 256]⟩
abbrev S32x256 : Shape := ⟨2, ![32, 256]⟩
abbrev S256x256 : Shape := ⟨2, ![256, 256]⟩
abbrev S256x1 : Shape := ⟨2, ![256, 1]⟩
abbrev S64x256 : Shape := ⟨2, ![64, 256]⟩
abbrev S64x1 : Shape := ⟨2, ![64, 1]⟩
abbrev S8x256 : Shape := ⟨2, ![8, 256]⟩
abbrev S1 : Shape := ⟨1, ![1]⟩
abbrev S1x1 : Shape := ⟨2, ![1, 1]⟩
abbrev S2x256 : Shape := ⟨2, ![2, 256]⟩
abbrev S10x256 : Shape := ⟨2, ![10, 256]⟩
abbrev S8x2048 : Shape := ⟨2, ![8, 2048]⟩
abbrev S1x2048 : Shape := ⟨2, ![1, 2048]⟩
abbrev S2048x8 : Shape := ⟨2, ![2048, 8]⟩
abbrev S2048x1 : Shape := ⟨2, ![2048, 1]⟩
abbrev S2048x256 : Shape := ⟨2, ![2048, 256]⟩
abbrev S2048x64 : Shape := ⟨2, ![2048, 64]⟩
abbrev S2048x10 : Shape := ⟨2, ![2048, 10]⟩
abbrev S2048x6 : Shape := ⟨2, ![2048, 6]⟩
abbrev S2048x336 : Shape := ⟨2, ![2048, 336]⟩
abbrev S2048 : Shape := ⟨1, ![2048]⟩
abbrev S4096x200x256 : Shape := ⟨3, ![4096, 200, 256]⟩

abbrev nBuf : Space → Nat
  | .hbm => 37
  | .vmem => 16
  | .smem => 0
  | _ => 0

abbrev bufTy : (tb : Table) → Fin (tcTables nBuf tb) → BufTy
  | .hbm, ⟨0, _⟩ => ⟨S4096x200x5, .f32⟩
  | .hbm, ⟨1, _⟩ => ⟨S256x32, .f32⟩
  | .hbm, ⟨2, _⟩ => ⟨S64x32, .f32⟩
  | .hbm, ⟨3, _⟩ => ⟨S2x8, .f32⟩
  | .hbm, ⟨4, _⟩ => ⟨S1x32, .f32⟩
  | .hbm, ⟨5, _⟩ => ⟨S32, .f32⟩
  | .hbm, ⟨6, _⟩ => ⟨S1x32, .f32⟩
  | .hbm, ⟨7, _⟩ => ⟨S32, .f32⟩
  | .hbm, ⟨8, _⟩ => ⟨S136x256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S819200x5, .f32⟩
  | .hbm, ⟨13, _⟩ => ⟨S5x819200, .f32⟩
  | .hbm, ⟨14, _⟩ => ⟨S_, .i32⟩
  | .hbm, ⟨15, _⟩ => ⟨S_, .f32⟩
  | .hbm, ⟨16, _⟩ => ⟨S8x819200, .f32⟩
  | .hbm, ⟨17, _⟩ => ⟨S_, .i32⟩
  | .hbm, ⟨18, _⟩ => ⟨S_, .f32⟩
  | .hbm, ⟨19, _⟩ => ⟨S8x8, .f32⟩
  | .hbm, ⟨20, _⟩ => ⟨S1x32, .f32⟩
  | .hbm, ⟨21, _⟩ => ⟨S_, .f32⟩
  | .hbm, ⟨22, _⟩ => ⟨S6x32, .f32⟩
  | .hbm, ⟨23, _⟩ => ⟨S8x32, .f32⟩
  | .hbm, ⟨24, _⟩ => ⟨S1x32, .f32⟩
  | .hbm, ⟨25, _⟩ => ⟨S_, .f32⟩
  | .hbm, ⟨26, _⟩ => ⟨S6x32, .f32⟩
  | .hbm, ⟨27, _⟩ => ⟨S8x32, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S256, .bf16⟩
  | .hbm, ⟨32, _⟩ => ⟨S1x256, .bf16⟩
  | .hbm, ⟨33, _⟩ => ⟨S64, .bf16⟩
  | .hbm, ⟨34, _⟩ => ⟨S1x64, .bf16⟩
  | .hbm, ⟨35, _⟩ => ⟨S819200x256, .f32⟩
  | .hbm, ⟨36, _⟩ => ⟨S4096x200x256, .f32⟩
  | .local _ .vmem, ⟨0, _⟩ => ⟨S8x16384, .f32⟩
  | .local _ .vmem, ⟨1, _⟩ => ⟨S8x16384, .f32⟩
  | .local _ .vmem, ⟨2, _⟩ => ⟨S256x32, .f32⟩
  | .local _ .vmem, ⟨3, _⟩ => ⟨S64x32, .f32⟩
  | .local _ .vmem, ⟨4, _⟩ => ⟨S8x8, .f32⟩
  | .local _ .vmem, ⟨5, _⟩ => ⟨S8x32, .f32⟩
  | .local _ .vmem, ⟨6, _⟩ => ⟨S8x32, .f32⟩
  | .local _ .vmem, ⟨7, _⟩ => ⟨S136x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .bf16⟩
  | .local _ .vmem, ⟨12, _⟩ => ⟨S1x64, .bf16⟩
  | .local _ .vmem, ⟨13, _⟩ => ⟨S16384x256, .f32⟩
  | .local _ .vmem, ⟨14, _⟩ => ⟨S16384x256, .f32⟩
  | .local _ .vmem, ⟨15, _⟩ => ⟨S336x256, .bf16⟩
  | _, _ => ⟨S4096x200x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S136x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S16384x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S4096x200x5 : Shape := ⟨3, ![4096, 200, 5]⟩
abbrev S256x32 : Shape := ⟨2, ![256, 32]⟩
abbrev S64x32 : Shape := ⟨2, ![64, 32]⟩
abbrev S2x8 : Shape := ⟨2, ![2, 8]⟩
abbrev S1x32 : Shape := ⟨2, ![1, 32]⟩
abbrev S32 : Shape := ⟨1, ![32]⟩
abbrev S136x256 : Shape := ⟨2, ![136, 256]⟩
abbrev S256 : Shape := ⟨1, ![256]⟩
abbrev S4096x200x1 : Shape := ⟨3, ![4096, 200, 1]⟩
abbrev S4096x200 : Shape := ⟨2, ![4096, 200]⟩
abbrev S_ : Shape := ⟨0, ![]⟩
abbrev S1 : Shape := ⟨1, ![1]⟩
abbrev S1x1x1 : Shape := ⟨3, ![1, 1, 1]⟩
abbrev S4096x200x32 : Shape := ⟨3, ![4096, 200, 32]⟩
abbrev S4096x200x8 : Shape := ⟨3, ![4096, 200, 8]⟩
abbrev S1x1x32 : Shape := ⟨3, ![1, 1, 32]⟩
abbrev S4096x200x136 : Shape := ⟨3, ![4096, 200, 136]⟩
abbrev S4096x200x256 : Shape := ⟨3, ![4096, 200, 256]⟩
abbrev S1x1x256 : Shape := ⟨3, ![1, 1, 256]⟩

abbrev nBuf : Space → Nat
  | .hbm => 173
  | .vmem => 0
  | .smem => 0
  | _ => 0

abbrev hbmTy0_0 (i : Nat) : BufTy := match i % 128 with
  | 0 => ⟨S4096x200x5, .f32⟩
  | 1 => ⟨S256x32, .f32⟩
  | 2 => ⟨S64x32, .f32⟩
  | 3 => ⟨S2x8, .f32⟩
  | 4 => ⟨S1x32, .f32⟩
  | 5 => ⟨S32, .f32⟩
  | 6 => ⟨S1x32, .f32⟩
  | 7 => ⟨S32, .f32⟩
  | 8 => ⟨S136x256, .f32⟩
  | 9 => ⟨S256, .f32⟩
  | 10 => ⟨S256, .f32⟩
  | 11 => ⟨S256, .f32⟩
  | 12 => ⟨S4096x200x1, .f32⟩
  | 13 => ⟨S4096x200, .f32⟩
  | 14 => ⟨S4096x200, .i32⟩
  | 15 => ⟨S_, .i32⟩
  | 16 => ⟨S_, .i32⟩
  | 17 => ⟨S_, .i32⟩
  | 18 => ⟨S4096x200, .i32⟩
  | 19 => ⟨S4096x200, .i32⟩
  | 20 => ⟨S_, .i32⟩
  | 21 => ⟨S4096x200, .i32⟩
  | 22 => ⟨S4096x200, .i32⟩
  | 23 => ⟨S4096x200x1, .f32⟩
  | 24 => ⟨S4096x200x1, .f32⟩
  | 25 => ⟨S4096x200x1, .f32⟩
  | 26 => ⟨S4096x200, .f32⟩
  | 27 => ⟨S4096x200, .i32⟩
  | 28 => ⟨S_, .i32⟩
  | 29 => ⟨S_, .i32⟩
  | 30 => ⟨S_, .i32⟩
  | 31 => ⟨S4096x200, .i32⟩
  | 32 => ⟨S4096x200, .i32⟩
  | 33 => ⟨S_, .i32⟩
  | 34 => ⟨S4096x200, .i32⟩
  | 35 => ⟨S4096x200, .i32⟩
  | 36 => ⟨S4096x200x1, .f32⟩
  | 37 => ⟨S4096x200, .f32⟩
  | 38 => ⟨S4096x200, .i32⟩
  | 39 => ⟨S_, .i32⟩
  | 40 => ⟨S_, .i32⟩
  | 41 => ⟨S_, .i32⟩
  | 42 => ⟨S4096x200, .i32⟩
  | 43 => ⟨S4096x200, .i32⟩
  | 44 => ⟨S_, .i32⟩
  | 45 => ⟨S4096x200, .i32⟩
  | 46 => ⟨S4096x200, .i32⟩
  | 47 => ⟨S_, .i32⟩
  | 48 => ⟨S4096x200, .i32⟩
  | 49 => ⟨S4096x200, .i1⟩
  | 50 => ⟨S_, .i32⟩
  | 51 => ⟨S4096x200, .i32⟩
  | 52 => ⟨S4096x200, .i32⟩
  | 53 => ⟨S4096x200, .i32⟩
  | 54 => ⟨S4096x200x1, .i32⟩
  | 55 => ⟨S1, .i32⟩
  | 56 => ⟨S_, .i32⟩
  | 57 => ⟨S4096x200x1, .i32⟩
  | 58 => ⟨S4096x200x1, .i1⟩
  | 59 => ⟨S1x1x1, .i32⟩
  | 60 => ⟨S4096x200x1, .i32⟩
  | 61 => ⟨S4096x200x1, .i1⟩
  | 62 => ⟨S4096x200x1, .i1⟩
  | 63 => ⟨S_, .i1⟩
  | 64 => ⟨S4096x200, .i1⟩
  | 65 => ⟨S4096x200x32, .f32⟩
  | 66 => ⟨S4096x200x32, .i1⟩
  | 67 => ⟨S_, .f32⟩
  | 68 => ⟨S4096x200x32, .f32⟩
  | 69 => ⟨S4096x200x32, .f32⟩
  | 70 => ⟨S_, .i32⟩
  | 71 => ⟨S4096x200, .i32⟩
  | 72 => ⟨S4096x200, .i1⟩
  | 73 => ⟨S_, .i32⟩
  | 74 => ⟨S4096x200, .i32⟩
  | 75 => ⟨S4096x200, .i32⟩
  | 76 => ⟨S4096x200, .i32⟩
  | 77 => ⟨S4096x200x1, .i32⟩
  | 78 => ⟨S1, .i32⟩
  | 79 => ⟨S_, .i32⟩
  | 80 => ⟨S4096x200x1, .i32⟩
  | 81 => ⟨S4096x200x1, .i1⟩
  | 82 => ⟨S1x1x1, .i32⟩
  | 83 => ⟨S4096x200x1, .i32⟩
  | 84 => ⟨S4096x200x1, .i1⟩
  | 85 => ⟨S4096x200x1, .i1⟩
  | 86 => ⟨S_, .i1⟩
  | 87 => ⟨S4096x200, .i1⟩
  | 88 => ⟨S4096x200x32, .f32⟩
  | 89 => ⟨S4096x200x32, .i1⟩
  | 90 => ⟨S_, .f32⟩
  | 91 => ⟨S4096x200x32, .f32⟩
  | 92 => ⟨S4096x200x32, .f32⟩
  | 93 => ⟨S_, .i32⟩
  | 94 => ⟨S4096x200, .i32⟩
  | 95 => ⟨S4096x200, .i1⟩
  | 96 => ⟨S_, .i32⟩
  | 97 => ⟨S4096x200, .i32⟩
  | 98 => ⟨S4096x200, .i32⟩
  | 99 => ⟨S4096x200, .i32⟩
  | 100 => ⟨S4096x200x1, .i32⟩
  | 101 => ⟨S1, .i32⟩
  | 102 => ⟨S_, .i32⟩
  | 103 => ⟨S4096x200x1, .i32⟩
  | 104 => ⟨S4096x200x1, .i1⟩
  | 105 => ⟨S1x1x1, .i32⟩
  | 106 => ⟨S4096x200x1, .i32⟩
  | 107 => ⟨S4096x200x1, .i1⟩
  | 108 => ⟨S4096x200x1, .i1⟩
  | 109 => ⟨S_, .i1⟩
  | 110 => ⟨S4096x200, .i1⟩
  | 111 => ⟨S4096x200x8, .f32⟩
  | 112 => ⟨S4096x200x8, .i1⟩
  | 113 => ⟨S_, .f32⟩
  | 114 => ⟨S4096x200x8, .f32⟩
  | 115 => ⟨S4096x200x8, .f32⟩
  | 116 => ⟨S4096x200x32, .f32⟩
  | 117 => ⟨S1x1x32, .f32⟩
  | 118 => ⟨S4096x200x32, .f32⟩
  | 119 => ⟨S4096x200x32, .f32⟩
  | 120 => ⟨S4096x200x32, .f32⟩
  | 121 => ⟨S1x1x32, .f32⟩
  | 122 => ⟨S4096x200x32, .f32⟩
  | 123 => ⟨S4096x200x32, .f32⟩
  | 124 => ⟨S4096x200x136, .f32⟩
  | 125 => ⟨S4096x200x256, .f32⟩
  | 126 => ⟨S1x1x256, .f32⟩
  | 127 => ⟨S4096x200x256, .f32⟩
  | _ => ⟨S4096x200x5, .f32⟩

abbrev hbmTy0_1 (i : Nat) : BufTy := match i % 128 with
  | 0 => ⟨S4096x200x256, .f32⟩
  | 1 => ⟨S_, .f32⟩
  | 2 => ⟨S4096x200, .f32⟩
  | 3 => ⟨S4096x200x1, .f32⟩
  | 4 => ⟨S_, .f32⟩
  | 5 => ⟨S4096x200x1, .f32⟩
  | 6 => ⟨S4096x200x1, .f32⟩
  | 7 => ⟨S_, .i32⟩
  | 8 => ⟨S_, .f32⟩
  | 9 => ⟨S4096x200, .f32⟩
  | 10 => ⟨S4096x200x1, .f32⟩
  | 11 => ⟨S_, .f32⟩
  | 12 => ⟨S4096x200x1, .f32⟩
  | 13 => ⟨S4096x200x1, .f32⟩
  | 14 => ⟨S4096x200x256, .f32⟩
  | 15 => ⟨S4096x200x256, .f32⟩
  | 16 => ⟨S4096x200x256, .f32⟩
  | 17 => ⟨S_, .f32⟩
  | 18 => ⟨S_, .f32⟩
  | 19 => ⟨S_, .f32⟩
  | 20 => ⟨S_, .f32⟩
  | 21 => ⟨S4096x200, .f32⟩
  | 22 => ⟨S4096x200x1, .f32⟩
  | 23 => ⟨S4096x200x1, .f32⟩
  | 24 => ⟨S4096x200x1, .f32⟩
  | 25 => ⟨S_, .f32⟩
  | 26 => ⟨S_, .i1⟩
  | 27 => ⟨S_, .f32⟩
  | 28 => ⟨S_, .f32⟩
  | 29 => ⟨S4096x200x1, .f32⟩
  | 30 => ⟨S4096x200x1, .f32⟩
  | 31 => ⟨S4096x200x256, .f32⟩
  | 32 => ⟨S4096x200x256, .f32⟩
  | 33 => ⟨S_, .f32⟩
  | 34 => ⟨S4096x200x1, .f32⟩
  | 35 => ⟨S4096x200x1, .f32⟩
  | 36 => ⟨S4096x200x1, .f32⟩
  | 37 => ⟨S4096x200x256, .f32⟩
  | 38 => ⟨S4096x200x256, .f32⟩
  | 39 => ⟨S1x1x256, .f32⟩
  | 40 => ⟨S4096x200x256, .f32⟩
  | 41 => ⟨S4096x200x256, .f32⟩
  | 42 => ⟨S1x1x256, .f32⟩
  | 43 => ⟨S4096x200x256, .f32⟩
  | 44 => ⟨S4096x200x256, .f32⟩
  | _ => ⟨S4096x200x5, .f32⟩

abbrev hbmTy (i : Nat) : BufTy := match i / 128 with
  | 0 => hbmTy0_0 i
  | 1 => hbmTy0_1 i
  | _ => ⟨S4096x200x5, .f32⟩

abbrev bufTy : (tb : Table) → Fin (tcTables nBuf tb) → BufTy
  | .hbm, ⟨i, _⟩ => hbmTy i
  | _, _ => ⟨S4096x200x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_c_4 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_v13 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v14 : Ref sig .tc := ⟨.hbm, 69, rfl⟩
abbrev main_call4_c : Ref sig .tc := ⟨.hbm, 70, rfl⟩
abbrev main_call4_v0 : Ref sig .tc := ⟨.hbm, 71, rfl⟩
abbrev main_call4_v1 : Ref sig .tc := ⟨.hbm, 72, rfl⟩
abbrev main_call4_c_0 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_c_1 : Ref sig .tc := ⟨.hbm, 78, rfl⟩
abbrev main_call4_c_2 : Ref sig .tc := ⟨.hbm, 79, rfl⟩
abbrev main_call4_v6 : Ref sig .tc := ⟨.hbm, 80, rfl⟩
abbrev main_call4_v7 : Ref sig .tc := ⟨.hbm, 81, rfl⟩
abbrev main_call4_v8 : Ref sig .tc := ⟨.hbm, 82, rfl⟩
abbrev main_call4_v9 : Ref sig .tc := ⟨.hbm, 83, rfl⟩
abbrev main_call4_v10 : Ref sig .tc := ⟨.hbm, 84, rfl⟩
abbrev main_call4_v11 : Ref sig .tc := ⟨.hbm, 85, rfl⟩
abbrev main_call4_c_3 : Ref sig .tc := ⟨.hbm, 86, rfl⟩
abbrev main_call4_v12 : Ref sig .tc := ⟨.hbm, 87, rfl⟩
abbrev main_call4_v13 : Ref sig .tc := ⟨.hbm, 88, rfl⟩
abbrev main_call4_v14 : Ref sig .tc := ⟨.hbm, 89, rfl⟩
abbrev main_call4_cst : Ref sig .tc := ⟨.hbm, 90, rfl⟩
abbrev main_call4_v15 : Ref sig .tc := ⟨.hbm, 91, rfl⟩
abbrev main_v15 : Ref sig .tc := ⟨.hbm, 92, rfl⟩
abbrev main_call5_c : Ref sig .tc := ⟨.hbm, 93, rfl⟩
abbrev main_call5_v0 : Ref sig .tc := ⟨.hbm, 94, rfl⟩
abbrev main_call5_v1 : Ref sig .tc := ⟨.hbm, 95, rfl⟩
abbrev main_call5_c_0 : Ref sig .tc := ⟨.hbm, 96, rfl⟩
abbrev main_call5_v2 : Ref sig .tc := ⟨.hbm, 97, rfl⟩
abbrev main_call5_v3 : Ref sig .tc := ⟨.hbm, 98, rfl⟩
abbrev main_call5_v4 : Ref sig .tc := ⟨.hbm, 99, rfl⟩
abbrev main_call5_v5 : Ref sig .tc := ⟨.hbm, 100, rfl⟩
abbrev main_call5_c_1 : Ref sig .tc := ⟨.hbm, 101, rfl⟩
abbrev main_call5_c_2 : Ref sig .tc := ⟨.hbm, 102, rfl⟩
abbrev main_call5_v6 : Ref sig .tc := ⟨.hbm, 103, rfl⟩
abbrev main_call5_v7 : Ref sig .tc := ⟨.hbm, 104, rfl⟩
abbrev main_call5_v8 : Ref sig .tc := ⟨.hbm, 105, rfl⟩
abbrev main_call5_v9 : Ref sig .tc := ⟨.hbm, 106, rfl⟩
abbrev main_call5_v10 : Ref sig .tc := ⟨.hbm, 107, rfl⟩
abbrev main_call5_v11 : Ref sig .tc := ⟨.hbm, 108, rfl⟩
abbrev main_call5_c_3 : Ref sig .tc := ⟨.hbm, 109, rfl⟩
abbrev main_call5_v12 : Ref sig .tc := ⟨.hbm, 110, rfl⟩
abbrev main_call5_v13 : Ref sig .tc := ⟨.hbm, 111, rfl⟩
abbrev main_call5_v14 : Ref sig .tc := ⟨.hbm, 112, rfl⟩
abbrev main_call5_cst : Ref sig .tc := ⟨.hbm, 113, rfl⟩
abbrev main_call5_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_v22 : Ref sig .tc := ⟨.hbm, 121, rfl⟩
abbrev main_v23 : Ref sig .tc := ⟨.hbm, 122, rfl⟩
abbrev main_v24 : Ref sig .tc := ⟨.hbm, 123, rfl⟩
abbrev main_v25 : Ref sig .tc := ⟨.hbm, 124, rfl⟩
abbrev main_v26 : Ref sig .tc := ⟨.hbm, 125, rfl⟩
abbrev main_v27 : Ref sig .tc := ⟨.hbm, 126, rfl⟩
abbrev main_v28 : Ref sig .tc := ⟨.hbm, 127, rfl⟩
abbrev main_v29 : Ref sig .tc := ⟨.hbm, 128, rfl⟩
abbrev main_cst : Ref sig .tc := ⟨.hbm, 129, rfl⟩
abbrev main_v30 : Ref sig .tc := ⟨.hbm, 130, rfl⟩
abbrev main_v31 : Ref sig .tc := ⟨.hbm, 131, rfl⟩
abbrev main_cst_5 : Ref sig .tc := ⟨.hbm, 132, rfl⟩
abbrev main_v32 : Ref sig .tc := ⟨.hbm, 133, rfl⟩
abbrev main_v33 : Ref sig .tc := ⟨.hbm, 134, rfl⟩
abbrev main_c_6 : Ref sig .tc := ⟨.hbm, 135, rfl⟩
abbrev main_call6_cst : Ref sig .tc := ⟨.hbm, 136, rfl⟩
abbrev main_call6_v0 : Ref sig .tc := ⟨.hbm, 137, rfl⟩
abbrev main_call6_v1 : Ref sig .tc := ⟨.hbm, 138, rfl⟩
abbrev main_call6_cst_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_v6 : Ref sig .tc := ⟨.hbm, 144, rfl⟩
abbrev main_call6_v7 : Ref sig .tc := ⟨.hbm, 145, rfl⟩
abbrev main_call6_cst_1 : Ref sig .tc := ⟨.hbm, 146, rfl⟩
abbrev main_call6_v8 : Ref sig .tc := ⟨.hbm, 147, rfl⟩
abbrev main_call6_cst_2 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_v12 : Ref sig .tc := ⟨.hbm, 152, rfl⟩
abbrev main_call6_cst_3 : Ref sig .tc := ⟨.hbm, 153, rfl⟩
abbrev main_call6_v13 : Ref sig .tc := ⟨.hbm, 154, rfl⟩
abbrev main_call6_cst_4 : Ref sig .tc := ⟨.hbm, 155, rfl⟩
abbrev main_call6_call0_v0 : Ref sig .tc := ⟨.hbm, 156, rfl⟩
abbrev main_call6_call0_v1 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_cst_7 : Ref sig .tc := ⟨.hbm, 161, rfl⟩
abbrev main_v37 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩

abbrev nD : Nat := 1
abbrev τ : Topo := Topo.v7x

variable {F : FTy → Type} [FloatOps F]
-- ==== Proof.KernelIdeal.Values.lean ====
/-
  What one grid point of the kernel computes, as functions of the contents of its windows: the table of centred rows
  that the first point stores in the scratch (`tableOf`), and the block of normalised rows every point stores in the
  output's window (`blockOf`). Both are stated for any float arithmetic.
-/
module

public import proofs.«01_k».proof.Proof.Gen.KernelIdeal.Frame
public import proofs.«01_k».proof.Proof.Gen.KernelIdeal.Skeleton
public import Idealize.ShloMosaic.Lib.Pipeline.ValueKit.Acc
public import Idealize.ShloMosaic.Lib.WritesUnit
public import Idealize.ShloMosaic.Lib.ValueIdx

@[expose] public section

set_option maxRecDepth 16384

noncomputable section

namespace Cert.KernelIdeal.Own

open Idealize.ShloMosaic Idealize.ShloMosaic.ValueIdx
open Cert.KernelIdeal Cert.KernelIdeal.Gen

variable {F : FTy → Type} [FloatOps F]

/-! ## One block of 2048 tokens -/

/-- Row `r` of a block of eight feature rows. -/
def feat (r : ℕ) (h : S8x2048.Slices ![r, 0] S1x2048) (x : FVec F S8x2048 .f32) : FVec F S1x2048 .f32 :=
  extractStridedSlice S1x2048 ![r, 0] x h

/-- A feature rounded down and clipped to `[0, hi]`. -/
def clipped (hi : BitVec 32) (v : FVec F S1x2048 .f32) : FVec F S1x2048 .bf16 :=
  truncf .bf16 (minimumf (broadcast S1x2048 (Scalar.ofBits .f32 hi))
    (maximumf (broadcast S1x2048 (Scalar.ofBits .f32 0x00000000#32)) (floor v))) bitsLt_bf16_f32

/-- The part of a feature that the short format holds. -/
def coarse (v : FVec F S1x2048 .f32) : FVec F S1x2048 .bf16 := truncf .bf16 v bitsLt_bf16_f32

/-- What `coarse` leaves of a feature, in the short format again. -/
def fine (v : FVec F S1x2048 .f32) : FVec F S1x2048 .bf16 :=
  truncf .bf16 (subf v (extf .f32 (coarse v) bitsLt_bf16_f32)) bitsLt_bf16_f32

/-- The eight numbers that describe each token of a block, one token per row. -/
def codes (x : FVec F S8x2048 .f32) : FVec F S2048x8 .bf16 :=
  transpose S2048x8 [1, 0]
    (concatenate S8x2048 0
      [⟨S1x2048, clipped 0x437F0000#32 (feat 0 slices_S8x2048_o0_0_S1x2048 x)⟩,
       ⟨S1x2048, clipped 0x427C0000#32 (feat 4 slices_S8x2048_o4_0_S1x2048 x)⟩,
       ⟨S1x2048, broadcast S1x2048 (Scalar.ofBits .bf16 0x3F80#16)⟩,
       ⟨S1x2048, clipped 0x3F800000#32 (feat 3 slices_S8x2048_o3_0_S1x2048 x)⟩,
       ⟨S1x2048, coarse (feat 1 slices_S8x2048_o1_0_S1x2048 x)⟩,
       ⟨S1x2048, fine (feat 1 slices_S8x2048_o1_0_S1x2048 x)⟩,
       ⟨S1x2048, coarse (feat 2 slices_S8x2048_o2_0_S1x2048 x)⟩,
       ⟨S1x2048, fine (feat 2 slices_S8x2048_o2_0_S1x2048 x)⟩]
      concatenates_S1x2048_S1x2048_S1x2048_S1x2048_S1x2048_S1x2048_S1x2048_S1x2048_S8x2048_d0)
    transposes_S8x2048_p1_0_S2048x8

/-- Ones where a token's first code is the lane's label. -/
def protoHot (p : FVec F S1x256 .bf16) (c : FVec F S2048x8 .bf16) : FVec F S2048x256 .bf16 :=
  truncf .bf16 (sitofp .f32 (extui 32 (cmpf .oeq
    (broadcastTo S2048x256 (extractStridedSlice S2048x1 ![0, 0] c slices_S2048x8_o0_0_S2048x1) broadcasts_S2048x1_S2048x256)
    (broadcastTo S2048x256 p broadcasts_S1x256_S2048x256)) natLt_1_32)) bitsLt_bf16_f32

/-- Ones where a token's second code is the lane's label. -/
def flagHot (f : FVec F S1x64 .bf16) (c : FVec F S2048x8 .bf16) : FVec F S2048x64 .bf16 :=
  truncf .bf16 (sitofp .f32 (extui 32 (cmpf .oeq
    (broadcastTo S2048x64 (extractStridedSlice S2048x1 ![0, 1] c slices_S2048x8_o0_1_S2048x1) broadcasts_S2048x1_S2048x64)
    (broadcastTo S2048x64 f broadcasts_S1x64_S2048x64)) natLt_1_32)) bitsLt_bf16_f32

/-- The weights with which each token takes the table's rows. -/
def weights (p : FVec F S1x256 .bf16) (f : FVec F S1x64 .bf16) (x : FVec F S8x2048 .f32) : FVec F S2048x336 .bf16 :=
  concatenate S2048x336 1
    [⟨S2048x256, protoHot p (codes x)⟩, ⟨S2048x64, flagHot f (codes x)⟩,
     ⟨S2048x6, extractStridedSlice S2048x6 ![0, 2] (codes x) slices_S2048x8_o0_2_S2048x6⟩,
     ⟨S2048x10, broadcast S2048x10 (Scalar.ofBits .bf16 0x0000#16)⟩]
    concatenates_S2048x256_S2048x64_S2048x6_S2048x10_S2048x336_d1

/-- The centred rows of a block: the weights times the table. -/
def centredOf (T : FVec F S336x256 .bf16) (p : FVec F S1x256 .bf16) (f : FVec F S1x64 .bf16) (x : FVec F S8x2048 .f32) :
    FVec F S2048x256 .f32 :=
  matmul dot_S2048x336_S336x256_S2048x256_1_0_0_1_n_n none (weights p f x) T (constant S2048x256 .f32 0x00000000#32)

/-- The reciprocal root of each row's mean square, a small constant added. -/
def scaleOf (c : FVec F S2048x256 .f32) : FVec F S2048x1 .f32 :=
  rsqrt (addf (divf (shapeCast S2048x1 (multiReduction .add [1] S2048 (mulf c c) 0x00000000#32 reduces_S2048x256_S2048 (.inl rfl) rfl)
    shapeCasts_S2048_S2048x1) (broadcast S2048x1 (Scalar.ofBits .f32 0x43800000#32)))
    (broadcast S2048x1 (Scalar.ofBits .f32 0x3727C5AC#32)))

/-- Rows scaled by their reciprocal root and by `g`, `b` added. -/
def affineOf (g b : FVec F S1x256 .f32) (c : FVec F S2048x256 .f32) : FVec F S2048x256 .f32 :=
  addf (mulf c (mulf (broadcastTo S2048x256 (scaleOf c) broadcasts_S2048x1_S2048x256)
    (broadcastTo S2048x256 (shapeCast S1x256 g shapeCasts_S1x256_S1x256) broadcasts_S1x256_S2048x256)))
    (broadcastTo S2048x256 (shapeCast S1x256 b shapeCasts_S1x256_S1x256) broadcasts_S1x256_S2048x256)

/-- The rows that 2048 tokens get, from the eight feature rows `x` of those tokens, the table `T`, the scale `g`, the
    shift `b` and the labels `p` and `f`. -/
def rowsOf (T : FVec F S336x256 .bf16) (g b : FVec F S1x256 .f32) (p : FVec F S1x256 .bf16) (f : FVec F S1x64 .bf16)
    (x : FVec F S8x2048 .f32) : FVec F S2048x256 .f32 :=
  affineOf g b (centredOf T (shapeCast S1x256 p shapeCasts_S1x256_S1x256) (shapeCast S1x64 f shapeCasts_S1x64_S1x64) x)

/-- The feature rows of 2048 tokens from token `o` of the window on. -/
def tokens (o : ℕ) (h : S8x16384.Slices ![0, o] S8x2048) (x : FVec F S8x16384 .f32) : FVec F S8x2048 .f32 :=
  extractStridedSlice S8x2048 ![0, o] (shapeCast S8x16384 x shapeCasts_S8x16384_S8x16384) h

/-- The eight stores of a point into the output's window, the last first. -/
def blockPieces (x : FVec F S8x16384 .f32) (T : FVec F S336x256 .bf16) (g b : FVec F S1x256 .f32) (p : FVec F S1x256 .bf16)
    (f : FVec F S1x64 .bf16) : List (View.Piece (Elt F) S16384x256 .f32) :=
  [⟨Rect.unit (s := S16384x256) ![14336, 0] S2048x256.size inb_S16384x256_S2048x256_14336_0, rowsOf T g b p f (tokens 14336 slices_S8x16384_o0_14336_S8x2048 x)⟩,
   ⟨Rect.unit (s := S16384x256) ![12288, 0] S2048x256.size inb_S16384x256_S2048x256_12288_0, rowsOf T g b p f (tokens 12288 slices_S8x16384_o0_12288_S8x2048 x)⟩,
   ⟨Rect.unit (s := S16384x256) ![10240, 0] S2048x256.size inb_S16384x256_S2048x256_10240_0, rowsOf T g b p f (tokens 10240 slices_S8x16384_o0_10240_S8x2048 x)⟩,
   ⟨Rect.unit (s := S16384x256) ![8192, 0] S2048x256.size inb_S16384x256_S2048x256_8192_0, rowsOf T g b p f (tokens 8192 slices_S8x16384_o0_8192_S8x2048 x)⟩,
   ⟨Rect.unit (s := S16384x256) ![6144, 0] S2048x256.size inb_S16384x256_S2048x256_6144_0, rowsOf T g b p f (tokens 6144 slices_S8x16384_o0_6144_S8x2048 x)⟩,
   ⟨Rect.unit (s := S16384x256) ![4096, 0] S2048x256.size inb_S16384x256_S2048x256_4096_0, rowsOf T g b p f (tokens 4096 slices_S8x16384_o0_4096_S8x2048 x)⟩,
   ⟨Rect.unit (s := S16384x256) ![2048, 0] S2048x256.size inb_S16384x256_S2048x256_2048_0, rowsOf T g b p f (tokens 2048 slices_S8x16384_o0_2048_S8x2048 x)⟩,
   ⟨Rect.unit (s := S16384x256) ![0, 0] S2048x256.size inb_S16384x256_S2048x256_0_0, rowsOf T g b p f (tokens 0 slices_S8x16384_o0_0_S8x2048 x)⟩]

/-- What a point leaves in the output's window. -/
def blockOf (x : FVec F S8x16384 .f32) (T : FVec F S336x256 .bf16) (g b : FVec F S1x256 .f32) (p : FVec F S1x256 .bf16)
    (f : FVec F S1x64 .bf16) : FVec F S16384x256 .f32 :=
  View.canon (blockPieces x T g b p f)

/-! ## The table -/

/-- The table of centred rows: one for each value of the first feature, one for each value of the fifth, the row common
    to all tokens, the direction's difference, the two slopes (each twice) and ten rows of zeros. -/
def tableOf (ep : FVec F S256x32 .f32) (ef : FVec F S64x32 .f32) (ed : FVec F S8x8 .f32) (ul ui : FVec F S8x32 .f32)
    (wf : FVec F S136x256 .f32) (bf : FVec F S1x256 .f32) : FVec F S336x256 .bf16 := fun y =>
  if h0 : (y 0).val < 256 then k0_pay3 wf ep (ix2 (⟨(y 0).val, h0⟩ : Fin 256) (y 1))
  else if h1 : (y 0).val < 320 then k0_pay4 wf ef (ix2 (⟨(y 0).val - 256, by omega⟩ : Fin 64) (y 1))
  else if (y 0).val < 321 then k0_pay8 wf (k0_pay5 wf ed) (k0_pay6 wf ul) ui bf (ix2 (0 : Fin 1) (y 1))
  else if (y 0).val < 322 then k0_pay9 (k0_pay5 wf ed) (ix2 (0 : Fin 1) (y 1))
  else if (y 0).val < 323 then k0_pay13 (k0_pay10 (k0_pay6 wf ul)) (ix2 (0 : Fin 1) (y 1))
  else if (y 0).val < 324 then k0_pay14 (k0_pay10 (k0_pay6 wf ul)) (ix2 (0 : Fin 1) (y 1))
  else if (y 0).val < 325 then k0_pay15 (k0_pay11 wf ui) (ix2 (0 : Fin 1) (y 1))
  else if (y 0).val < 326 then k0_pay16 (k0_pay11 wf ui) (ix2 (0 : Fin 1) (y 1))
  else k0_pay17 (ix2 (⟨(y 0).val - 326, by have := (y 0).isLt; change (y 0).val < 336 at this; omega⟩ : Fin 10) (y 1))

end Cert.KernelIdeal.Own

end
-- ==== Proof.KernelIdeal.Stores.lean ====
/-
  The payloads of the eight stores into the output's window, each recognised as the one function `rowsOf` of its tokens.
-/
module

public import proofs.«01_k».proof.Proof.KernelIdeal.Values

@[expose] public section

set_option maxRecDepth 16384

noncomputable section

namespace Cert.KernelIdeal.Own

open Idealize.ShloMosaic Idealize.ShloMosaic.ValueIdx
open Cert.KernelIdeal Cert.KernelIdeal.Gen

variable {F : FTy → Type} [FloatOps F]

/-- The payload of the store at row 14336 is `rowsOf` of the tokens from 14336 on. -/
theorem store7_eq (T : FVec F S336x256 .bf16) (g b : FVec F S1x256 .f32) (p : FVec F S1x256 .bf16) (f : FVec F S1x64 .bf16)
    (x : FVec F S8x16384 .f32) :
    k0_pay2 (k0_pay80 T (k0_pay19 p) (k0_pay20 f) (k0_pay77 (k0_pay18 x)) (k0_pay78 (k0_pay18 x)) (FloatOps.ofBits FTy.f32 1115422720#32) (k0_pay79 (k0_pay18 x))) g b
      = rowsOf T g b p f (tokens 14336 slices_S8x16384_o0_14336_S8x2048 x) := rfl

/-- The payload of the store at row 12288 is `rowsOf` of the tokens from 12288 on. -/
theorem store6_eq (T : FVec F S336x256 .bf16) (g b : FVec F S1x256 .f32) (p : FVec F S1x256 .bf16) (f : FVec F S1x64 .bf16)
    (x : FVec F S8x16384 .f32) :
    k0_pay1 (k0_pay76 T (k0_pay19 p) (k0_pay20 f) (k0_pay72 (k0_pay18 x)) (k0_pay73 (k0_pay18 x)) (k0_pay74 (k0_pay18 x)) (k0_pay75 (k0_pay18 x))) (k0_pay81 (k0_pay76 T (k0_pay19 p) (k0_pay20 f) (k0_pay72 (k0_pay18 x)) (k0_pay73 (k0_pay18 x)) (k0_pay74 (k0_pay18 x)) (k0_pay75 (k0_pay18 x)))) g b
      = rowsOf T g b p f (tokens 12288 slices_S8x16384_o0_12288_S8x2048 x) := rfl

/-- The payload of the store at row 10240 is `rowsOf` of the tokens from 10240 on. -/
theorem store5_eq (T : FVec F S336x256 .bf16) (g b : FVec F S1x256 .f32) (p : FVec F S1x256 .bf16) (f : FVec F S1x64 .bf16)
    (x : FVec F S8x16384 .f32) :
    k0_pay71 (k0_pay68 T (k0_pay19 p) (k0_pay20 f) (k0_pay64 (k0_pay18 x)) (k0_pay65 (k0_pay18 x)) (k0_pay66 (k0_pay18 x)) (k0_pay67 (k0_pay18 x)) (FloatOps.ofBits FTy.f32 0#32)) g b
      = rowsOf T g b p f (tokens 10240 slices_S8x16384_o0_10240_S8x2048 x) := rfl

/-- The payload of the store at row 8192 is `rowsOf` of the tokens from 8192 on. -/
theorem store4_eq (T : FVec F S336x256 .bf16) (g b : FVec F S1x256 .f32) (p : FVec F S1x256 .bf16) (f : FVec F S1x64 .bf16)
    (x : FVec F S8x16384 .f32) :
    k0_pay70 (k0_pay63 T (k0_pay19 p) (k0_pay20 f) (k0_pay58 (k0_pay18 x)) (k0_pay59 (k0_pay18 x)) (k0_pay60 (k0_pay18 x)) (k0_pay61 (k0_pay18 x)) (k0_pay62 (F := F))) (k0_pay69 (k0_pay63 T (k0_pay19 p) (k0_pay20 f) (k0_pay58 (k0_pay18 x)) (k0_pay59 (k0_pay18 x)) (k0_pay60 (k0_pay18 x)) (k0_pay61 (k0_pay18 x)) (k0_pay62 (F := F))) g) b
      = rowsOf T g b p f (tokens 8192 slices_S8x16384_o0_8192_S8x2048 x) := rfl

/-- The payload of the store at row 6144 is `rowsOf` of the tokens from 6144 on. -/
theorem store3_eq (T : FVec F S336x256 .bf16) (g b : FVec F S1x256 .f32) (p : FVec F S1x256 .bf16) (f : FVec F S1x64 .bf16)
    (x : FVec F S8x16384 .f32) :
    k0_pay57 (k0_pay53 T (k0_pay19 p) (k0_pay20 f) (k0_pay49 (k0_pay18 x)) (k0_pay50 (k0_pay18 x)) (k0_pay51 (k0_pay18 x)) (k0_pay52 (k0_pay18 x))) g b
      = rowsOf T g b p f (tokens 6144 slices_S8x16384_o0_6144_S8x2048 x) := rfl

/-- The payload of the store at row 4096 is `rowsOf` of the tokens from 4096 on. -/
theorem store2_eq (T : FVec F S336x256 .bf16) (g b : FVec F S1x256 .f32) (p : FVec F S1x256 .bf16) (f : FVec F S1x64 .bf16)
    (x : FVec F S8x16384 .f32) :
    k0_pay56 (k0_pay54 (k0_pay48 T (k0_pay19 p) (k0_pay20 f) (k0_pay41 (k0_pay18 x)) (k0_pay42 (k0_pay18 x)) (k0_pay43 (k0_pay18 x)) (k0_pay44 (k0_pay18 x)) (k0_pay45 (k0_pay18 x)) (k0_pay46 (k0_pay18 x)) (k0_pay47 (k0_pay18 x))) g) (k0_pay55 b)
      = rowsOf T g b p f (tokens 4096 slices_S8x16384_o0_4096_S8x2048 x) := rfl

/-- The payload of the store at row 2048 is `rowsOf` of the tokens from 2048 on. -/
theorem store1_eq (T : FVec F S336x256 .bf16) (g b : FVec F S1x256 .f32) (p : FVec F S1x256 .bf16) (f : FVec F S1x64 .bf16)
    (x : FVec F S8x16384 .f32) :
    k0_pay40 (k0_pay37 T (k0_pay19 p) (k0_pay20 f) (k0_pay31 (k0_pay18 x)) (k0_pay32 (k0_pay18 x)) (k0_pay33 (k0_pay18 x)) (k0_pay34 (k0_pay18 x)) (k0_pay35 (k0_pay18 x)) (k0_pay36 (k0_pay18 x))) (k0_pay39 T (k0_pay19 p) (k0_pay20 f) (k0_pay31 (k0_pay18 x)) (k0_pay32 (k0_pay18 x)) (k0_pay33 (k0_pay18 x)) (k0_pay34 (k0_pay18 x)) (k0_pay35 (k0_pay18 x)) (k0_pay36 (k0_pay18 x))) g b
      = rowsOf T g b p f (tokens 2048 slices_S8x16384_o0_2048_S8x2048 x) := rfl

/-- The payload of the store at row 0 is `rowsOf` of the tokens from 0 on. -/
theorem store0_eq (T : FVec F S336x256 .bf16) (g b : FVec F S1x256 .f32) (p : FVec F S1x256 .bf16) (f : FVec F S1x64 .bf16)
    (x : FVec F S8x16384 .f32) :
    k0_pay38 (k0_pay30 T (k0_pay19 p) (k0_pay20 f) (k0_pay22 x) (k0_pay23 x) (k0_pay24 x) (k0_pay25 x) (k0_pay26 x) (k0_pay27 x) (k0_pay28 x) (k0_pay29 x)) g b
      = rowsOf T g b p f (tokens 0 slices_S8x16384_o0_0_S8x2048 x) := rfl

end Cert.KernelIdeal.Own

end
-- ==== Proof.KernelIdeal.Later.lean ====
/-
  The body's run at a point whose table is already in the scratch: it stores the block `blockOf` in the output's window
  and leaves every other buffer as it was.
-/
module

public import proofs.«01_k».proof.Proof.KernelIdeal.Stores

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The condition under which the body builds the table, from the grid's coordinate. -/
abbrev builds (i : grid0.Coords) : Prop :=
  (Scalar.cmpi .ne (Scalar.extui (Scalar.cmpi .eq (BitVec.ofNat 32 (i 0).val) 0#32)) 0#32) = 1#1

set_option maxHeartbeats 1000000 in
/-- At a point that doesn't build the table, the body turns its windows' contents and the scratch's into `blockOf`. -/
theorem later_run (c : Dev nD) (i : grid0.Coords) (arg1 : Memref sig .tc .vmem S8x16384 .f32) (harg1 : arg1.IsWhole) (arg2 : Memref sig .tc .vmem S256x32 .f32) (harg2 : arg2.IsWhole) (arg3 : Memref sig .tc .vmem S64x32 .f32) (harg3 : arg3.IsWhole) (arg4 : Memref sig .tc .vmem S8x8 .f32) (harg4 : arg4.IsWhole) (arg5 : Memref sig .tc .vmem S8x32 .f32) (harg5 : arg5.IsWhole) (arg6 : Memref sig .tc .vmem S8x32 .f32) (harg6 : arg6.IsWhole) (arg7 : Memref sig .tc .vmem S136x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .bf16) (harg11 : arg11.IsWhole) (arg12 : Memref sig .tc .vmem S1x64 .bf16) (harg12 : arg12.IsWhole) (arg13 : Memref sig .tc .vmem S16384x256 .f32) (harg13 : arg13.IsWhole) (arg14 : Memref sig .tc .vmem S336x256 .bf16) (harg14 : arg14.IsWhole) (hc : ¬ builds i)
    (x0 : Vec F S8x16384 .f32) (x1 : Vec F S256x32 .f32) (x2 : Vec F S64x32 .f32) (x3 : Vec F S8x8 .f32) (x4 : Vec F S8x32 .f32) (x5 : Vec F S8x32 .f32) (x6 : Vec F S136x256 .f32) (x7 : Vec F S1x256 .f32) (x8 : Vec F S1x256 .f32) (x9 : Vec F S1x256 .f32) (x10 : Vec F S1x256 .bf16) (x11 : Vec F S1x64 .bf16) (T : Vec F S336x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare T
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (blockOf x0 T x8 x9 x10 x11) ∗ owns (c : Thread nD τ) arg14 fullShare T) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hfs
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; swap
    · iexact H12
    · ipureintro
      refine (View.read_writes_eq_canon (Val := Elt F) arg13.view f12 _ ?_).trans ?_
      · exact View.cover_of_tiledL _ S2048x256.size (by sl_kernel_rfl)
      sl_unfold_words
      simp only [View.readAt_eq_ld, Memref.IsWhole.read_unread]
      simp (disch := decide) only [View.ld_unit_lit']
      rw [store0_eq, store1_eq, store2_eq, store3_eq, store4_eq, store5_eq, store6_eq, store7_eq]
      rfl
  iexists _; isplitr
  · ipureintro; exact harg14.read_unread _
  iexact HS

end Cert.KernelIdeal.Own

end
-- ==== Proof.KernelIdeal.Table.lean ====
/-
  The table as a list of stores: what the scratch reads after the pieces that build it, the newest first, whatever it
  held before. The last six rows above the padding are stored in pairs, each row of a pair over a reading of the pair.
-/
module

public import proofs.«01_k».proof.Proof.KernelIdeal.Values

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- Row 0 of a pair whose rows were stored one after the other. -/
theorem pair_fst (o : FVec F S2x256 .bf16) (a b : FVec F S1x256 .bf16) (j : Fin 256) :
    updateSlice (updateSlice o a ![0, 0] slices_S2x256_S1x256_0_0) b ![1, 0] slices_S2x256_S1x256_1_0 (ix2 (0 : Fin 2) j)
      = a (ix2 (0 : Fin 1) j) := by
  unfold updateSlice
  rw [dif_neg (fun h => absurd (h 0).1 (Nat.not_succ_le_zero 0))]
  rw [dif_pos (by intro b; fin_cases b; · exact ⟨Nat.zero_le _, Nat.one_pos⟩
                  · exact ⟨Nat.zero_le _, j.isLt⟩)]
  congr 1; funext b; fin_cases b <;> rfl

/-- Row 1 of a pair whose rows were stored one after the other. -/
theorem pair_snd (o : FVec F S2x256 .bf16) (b : FVec F S1x256 .bf16) (j : Fin 256) :
    updateSlice o b ![1, 0] slices_S2x256_S1x256_1_0 (ix2 (1 : Fin 2) j) = b (ix2 (0 : Fin 1) j) := by
  unfold updateSlice
  rw [dif_pos (by intro b; fin_cases b; · exact ⟨Nat.le_refl 1, Nat.lt_succ_self 1⟩
                  · exact ⟨Nat.zero_le _, j.isLt⟩)]
  congr 1; funext b; fin_cases b <;> rfl

/-- The stores that build the table leave `tableOf`, whatever was there and whatever the pairs were stored over. -/
theorem read_table (M : Memref sig .tc .vmem S336x256 .bf16) (f : _)
    (o0 o1 o2 : FVec F S2x256 .bf16) (ep : FVec F S256x32 .f32) (ef : FVec F S64x32 .f32) (ed : FVec F S8x8 .f32)
    (ul ui : FVec F S8x32 .f32) (wf : FVec F S136x256 .f32) (bf : FVec F S1x256 .f32) :
    M.view.read (Elt F) (M.view.writes (Elt F) f
      [⟨Rect.unit ![326, 0] ![10, 256] inb_S336x256_S10x256_326_0, k0_pay17⟩,
       ⟨Rect.unit ![324, 0] ![2, 256] inb_S336x256_S2x256_324_0, updateSlice (updateSlice o2 (k0_pay15 (k0_pay11 wf ui)) ![0, 0] slices_S2x256_S1x256_0_0) (k0_pay16 (k0_pay11 wf ui)) ![1, 0] slices_S2x256_S1x256_1_0⟩,
       ⟨Rect.unit ![324, 0] ![2, 256] inb_S336x256_S2x256_324_0, updateSlice o2 (k0_pay15 (k0_pay11 wf ui)) ![0, 0] slices_S2x256_S1x256_0_0⟩,
       ⟨Rect.unit ![322, 0] ![2, 256] inb_S336x256_S2x256_322_0, updateSlice (updateSlice o1 (k0_pay13 (k0_pay10 (k0_pay6 wf ul))) ![0, 0] slices_S2x256_S1x256_0_0) (k0_pay14 (k0_pay10 (k0_pay6 wf ul))) ![1, 0] slices_S2x256_S1x256_1_0⟩,
       ⟨Rect.unit ![322, 0] ![2, 256] inb_S336x256_S2x256_322_0, updateSlice o1 (k0_pay13 (k0_pay10 (k0_pay6 wf ul))) ![0, 0] slices_S2x256_S1x256_0_0⟩,
       ⟨Rect.unit ![320, 0] ![2, 256] inb_S336x256_S2x256_320_0, updateSlice (updateSlice o0 (k0_pay8 wf (k0_pay5 wf ed) (k0_pay6 wf ul) ui bf) ![0, 0] slices_S2x256_S1x256_0_0) (k0_pay9 (k0_pay5 wf ed)) ![1, 0] slices_S2x256_S1x256_1_0⟩,
       ⟨Rect.unit ![320, 0] ![2, 256] inb_S336x256_S2x256_320_0, updateSlice o0 (k0_pay8 wf (k0_pay5 wf ed) (k0_pay6 wf ul) ui bf) ![0, 0] slices_S2x256_S1x256_0_0⟩,
       ⟨Rect.unit ![256, 0] ![64, 256] inb_S336x256_S64x256_256_0, k0_pay4 wf ef⟩,
       ⟨Rect.unit ![0, 0] ![256, 256] inb_S336x256_S256x256_0_0, k0_pay3 wf ep⟩])
      = tableOf ep ef ed ul ui wf bf := by
  funext y
  have hy : (y 0).val < 336 := (y 0).isLt
  have skip : ∀ {off size : Fin 2 → ℕ} {o W : ℕ} (inb : ∀ a : Fin 2, off a + size a ≤ S336x256.size a) (w) (L)
      (_ : off = ![o, 0]) (_ : size (0 : Fin 2) = W) (_ : (y 0).val < o ∨ o + W ≤ (y 0).val),
      M.view.read (Elt F) (M.view.writes (Elt F) f (⟨Rect.unit (s := S336x256) off size inb, w⟩ :: L)) y
        = M.view.read (Elt F) (M.view.writes (Elt F) f L) y :=
    fun inb w L hoff hW h => View.read_writes_cons_rows_of_not_mem M.view f inb w L y hoff hW h
  unfold tableOf
  by_cases h : (y 0).val < 256
  · rw [dif_pos h]
    refine (skip (o := 326) (W := 10) _ _ _ rfl rfl (by omega)).trans ?_
    refine (skip (o := 324) (W := 2) _ _ _ rfl rfl (by omega)).trans ?_
    refine (skip (o := 324) (W := 2) _ _ _ rfl rfl (by omega)).trans ?_
    refine (skip (o := 322) (W := 2) _ _ _ rfl rfl (by omega)).trans ?_
    refine (skip (o := 322) (W := 2) _ _ _ rfl rfl (by omega)).trans ?_
    refine (skip (o := 320) (W := 2) _ _ _ rfl rfl (by omega)).trans ?_
    refine (skip (o := 320) (W := 2) _ _ _ rfl rfl (by omega)).trans ?_
    refine (skip (o := 256) (W := 64) _ _ _ rfl rfl (by omega)).trans ?_
    refine (View.read_writes_cons_rows_of_mem (o := 0) M.view f _ _ _ y (ix2 (⟨(y 0).val, h⟩ : Fin 256) (y 1)) rfl ?_ rfl).trans ?_
    · show (y 0).val = 0 + (y 0).val; omega
    rfl
  have h256 := h; clear h
  by_cases h : (y 0).val < 320
  · rw [dif_neg h256, dif_pos h]
    refine (skip (o := 326) (W := 10) _ _ _ rfl rfl (by omega)).trans ?_
    refine (skip (o := 324) (W := 2) _ _ _ rfl rfl (by omega)).trans ?_
    refine (skip (o := 324) (W := 2) _ _ _ rfl rfl (by omega)).trans ?_
    refine (skip (o := 322) (W := 2) _ _ _ rfl rfl (by omega)).trans ?_
    refine (skip (o := 322) (W := 2) _ _ _ rfl rfl (by omega)).trans ?_
    refine (skip (o := 320) (W := 2) _ _ _ rfl rfl (by omega)).trans ?_
    refine (skip (o := 320) (W := 2) _ _ _ rfl rfl (by omega)).trans ?_
    refine (View.read_writes_cons_rows_of_mem (o := 256) M.view f _ _ _ y (ix2 (⟨(y 0).val - 256, by omega⟩ : Fin 64) (y 1)) rfl ?_ rfl).trans ?_
    · show (y 0).val = 256 + ((y 0).val - 256); omega
    rfl
  have h320 := h; clear h
  by_cases h : (y 0).val < 321
  · rw [dif_neg h256, dif_neg h320, if_pos h]
    refine (skip (o := 326) (W := 10) _ _ _ rfl rfl (by omega)).trans ?_
    refine (skip (o := 324) (W := 2) _ _ _ rfl rfl (by omega)).trans ?_
    refine (skip (o := 324) (W := 2) _ _ _ rfl rfl (by omega)).trans ?_
    refine (skip (o := 322) (W := 2) _ _ _ rfl rfl (by omega)).trans ?_
    refine (skip (o := 322) (W := 2) _ _ _ rfl rfl (by omega)).trans ?_
    refine (View.read_writes_cons_rows_of_mem (o := 320) M.view f _ _ _ y (ix2 (0 : Fin 2) (y 1)) rfl ?_ rfl).trans ?_
    · show (y 0).val = 320 + 0; omega
    exact pair_fst _ _ _ _
  have h321 := h; clear h
  by_cases h : (y 0).val < 322
  · rw [dif_neg h256, dif_neg h320, if_neg h321, if_pos h]
    refine (skip (o := 326) (W := 10) _ _ _ rfl rfl (by omega)).trans ?_
    refine (skip (o := 324) (W := 2) _ _ _ rfl rfl (by omega)).trans ?_
    refine (skip (o := 324) (W := 2) _ _ _ rfl rfl (by omega)).trans ?_
    refine (skip (o := 322) (W := 2) _ _ _ rfl rfl (by omega)).trans ?_
    refine (skip (o := 322) (W := 2) _ _ _ rfl rfl (by omega)).trans ?_
    refine (View.read_writes_cons_rows_of_mem (o := 320) M.view f _ _ _ y (ix2 (1 : Fin 2) (y 1)) rfl ?_ rfl).trans ?_
    · show (y 0).val = 320 + 1; omega
    exact pair_snd _ _ _
  have h322 := h; clear h
  by_cases h : (y 0).val < 323
  · rw [dif_neg h256, dif_neg h320, if_neg h321, if_neg h322, if_pos h]
    refine (skip (o := 326) (W := 10) _ _ _ rfl rfl (by omega)).trans ?_
    refine (skip (o := 324) (W := 2) _ _ _ rfl rfl (by omega)).trans ?_
    refine (skip (o := 324) (W := 2) _ _ _ rfl rfl (by omega)).trans ?_
    refine (View.read_writes_cons_rows_of_mem (o := 322) M.view f _ _ _ y (ix2 (0 : Fin 2) (y 1)) rfl ?_ rfl).trans ?_
    · show (y 0).val = 322 + 0; omega
    exact pair_fst _ _ _ _
  have h323 := h; clear h
  by_cases h : (y 0).val < 324
  · rw [dif_neg h256, dif_neg h320, if_neg h321, if_neg h322, if_neg h323, if_pos h]
    refine (skip (o := 326) (W := 10) _ _ _ rfl rfl (by omega)).trans ?_
    refine (skip (o := 324) (W := 2) _ _ _ rfl rfl (by omega)).trans ?_
    refine (skip (o := 324) (W := 2) _ _ _ rfl rfl (by omega)).trans ?_
    refine (View.read_writes_cons_rows_of_mem (o := 322) M.view f _ _ _ y (ix2 (1 : Fin 2) (y 1)) rfl ?_ rfl).trans ?_
    · show (y 0).val = 322 + 1; omega
    exact pair_snd _ _ _
  have h324 := h; clear h
  by_cases h : (y 0).val < 325
  · rw [dif_neg h256, dif_neg h320, if_neg h321, if_neg h322, if_neg h323, if_neg h324, if_pos h]
    refine (skip (o := 326) (W := 10) _ _ _ rfl rfl (by omega)).trans ?_
    refine (View.read_writes_cons_rows_of_mem (o := 324) M.view f _ _ _ y (ix2 (0 : Fin 2) (y 1)) rfl ?_ rfl).trans ?_
    · show (y 0).val = 324 + 0; omega
    exact pair_fst _ _ _ _
  have h325 := h; clear h
  by_cases h : (y 0).val < 326
  · rw [dif_neg h256, dif_neg h320, if_neg h321, if_neg h322, if_neg h323, if_neg h324, if_neg h325, if_pos h]
    refine (skip (o := 326) (W := 10) _ _ _ rfl rfl (by omega)).trans ?_
    refine (View.read_writes_cons_rows_of_mem (o := 324) M.view f _ _ _ y (ix2 (1 : Fin 2) (y 1)) rfl ?_ rfl).trans ?_
    · show (y 0).val = 324 + 1; omega
    exact pair_snd _ _ _
  have h326 := h; clear h
  rw [dif_neg h256, dif_neg h320, if_neg h321, if_neg h322, if_neg h323, if_neg h324, if_neg h325, if_neg h326]
  refine (View.read_writes_cons_rows_of_mem (o := 326) M.view f _ _ _ y (ix2 (⟨(y 0).val - 326, by omega⟩ : Fin 10) (y 1)) rfl ?_ rfl).trans ?_
  · show (y 0).val = 326 + ((y 0).val - 326); omega
  rfl

end Cert.KernelIdeal.Own

end
-- ==== Proof.KernelIdeal.First.lean ====
/-
  The body's run at the point that builds the table: the table's rows are stored in the scratch, whatever it held, and
  what follows is the run of a point that finds the table there.
-/
module

public import proofs.«01_k».proof.Proof.KernelIdeal.Later
public import proofs.«01_k».proof.Proof.KernelIdeal.Table

@[expose] public section

set_option maxRecDepth 16384

noncomputable section

namespace Cert.KernelIdeal.Own

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The part of the body that a point runs only when it builds the table. -/
def buildProg (i : grid0.Coords) (arg1 : Memref sig .tc .vmem S8x16384 .f32) (harg1 : arg1.IsWhole) (arg2 : Memref sig .tc .vmem S256x32 .f32) (harg2 : arg2.IsWhole) (arg3 : Memref sig .tc .vmem S64x32 .f32) (harg3 : arg3.IsWhole) (arg4 : Memref sig .tc .vmem S8x8 .f32) (harg4 : arg4.IsWhole) (arg5 : Memref sig .tc .vmem S8x32 .f32) (harg5 : arg5.IsWhole) (arg6 : Memref sig .tc .vmem S8x32 .f32) (harg6 : arg6.IsWhole) (arg7 : Memref sig .tc .vmem S136x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .bf16) (harg11 : arg11.IsWhole) (arg12 : Memref sig .tc .vmem S1x64 .bf16) (harg12 : arg12.IsWhole) (arg13 : Memref sig .tc .vmem S16384x256 .f32) (harg13 : arg13.IsWhole) (arg14 : Memref sig .tc .vmem S336x256 .bf16) (harg14 : arg14.IsWhole) :
    Prog (TpuEff nD τ sig (Elt F) Λ₀ .tc) PUnit := do
  let ⟨v602, v632, v636⟩ : Σ' (v602 : Vec F S136x256 .f32) (v632 : FVec F S8x256 .f32), FVec F S8x256 .f32 ← k0_part1_skel i arg1 harg1 arg2 harg2 arg3 harg3 arg4 harg4 arg5 harg5 arg6 harg6 arg7 harg7 arg8 harg8 arg9 harg9 arg10 harg10 arg11 harg11 arg12 harg12 arg13 harg13 arg14 harg14
  let ⟨v679, v680⟩ : Σ' (v679 : FVec F S1x256 .bf16), FVec F S1x256 .f32 ← k0_part2_skel i arg1 harg1 arg2 harg2 arg3 harg3 arg4 harg4 arg5 harg5 arg6 harg6 arg7 harg7 arg8 harg8 arg9 harg9 arg10 harg10 arg11 harg11 arg12 harg12 arg13 harg13 arg14 harg14 v602 v632 v636
  let v688 : Vec F S1x256 .bf16 ← Prog.lift (.load arg14 (Rect.unit (s := S336x256) ![322, 0] S1x256.size inb_S336x256_S1x256_322_0).toLoadRect (View.loadsAt_vmem h_S1x256))
  storeSubelements arg14 (Rect.unit (s := S336x256) ![322, 0] S2x256.size inb_S336x256_S2x256_322_0) (fun old => updateSlice old (k0_pay13 v679) ![0, 0] slices_S2x256_S1x256_0_0) (View.loadsAt_vmem h_S2x256) (View.stores_vmem h_S2x256 (harg14.storeExact_slice rfl _ packedbf16_S336x256_S2x256_322_0) (fun _ => rfl))
  let v691 : Vec F S1x256 .bf16 ← Prog.lift (.load arg14 (Rect.unit (s := S336x256) ![323, 0] S1x256.size inb_S336x256_S1x256_323_0).toLoadRect (View.loadsAt_vmem h_S1x256))
  storeSubelements arg14 (Rect.unit (s := S336x256) ![322, 0] S2x256.size inb_S336x256_S2x256_322_0) (fun old => updateSlice old (k0_pay14 v679) ![1, 0] slices_S2x256_S1x256_1_0) (View.loadsAt_vmem h_S2x256) (View.stores_vmem h_S2x256 (harg14.storeExact_slice rfl _ packedbf16_S336x256_S2x256_322_0) (fun _ => rfl))
  let v694 : Vec F S1x256 .bf16 ← Prog.lift (.load arg14 (Rect.unit (s := S336x256) ![324, 0] S1x256.size inb_S336x256_S1x256_324_0).toLoadRect (View.loadsAt_vmem h_S1x256))
  storeSubelements arg14 (Rect.unit (s := S336x256) ![324, 0] S2x256.size inb_S336x256_S2x256_324_0) (fun old => updateSlice old (k0_pay15 v680) ![0, 0] slices_S2x256_S1x256_0_0) (View.loadsAt_vmem h_S2x256) (View.stores_vmem h_S2x256 (harg14.storeExact_slice rfl _ packedbf16_S336x256_S2x256_324_0) (fun _ => rfl))
  let v697 : Vec F S1x256 .bf16 ← Prog.lift (.load arg14 (Rect.unit (s := S336x256) ![325, 0] S1x256.size inb_S336x256_S1x256_325_0).toLoadRect (View.loadsAt_vmem h_S1x256))
  storeSubelements arg14 (Rect.unit (s := S336x256) ![324, 0] S2x256.size inb_S336x256_S2x256_324_0) (fun old => updateSlice old (k0_pay16 v680) ![1, 0] slices_S2x256_S1x256_1_0) (View.loadsAt_vmem h_S2x256) (View.stores_vmem h_S2x256 (harg14.storeExact_slice rfl _ packedbf16_S336x256_S2x256_324_0) (fun _ => rfl))
  let v701 : Vec F S10x256 .bf16 ← Prog.lift (.load arg14 (Rect.unit (s := S336x256) ![326, 0] S10x256.size inb_S336x256_S10x256_326_0).toLoadRect (View.loadsAt_vmem h_S10x256))
  Prog.lift (.store arg14 (Rect.unit (s := S336x256) ![326, 0] S10x256.size inb_S336x256_S10x256_326_0) (k0_pay17 (F := F)) Finset.univ (View.stores_vmem h_S10x256 (harg14.storeExact_slice rfl _ packedbf16_S336x256_S10x256_326_0) (fun _ => rfl)) (.inl rfl))
  pure ⟨⟩

/-- A point that builds the table runs `buildProg` and then what a point `i'` that builds nothing runs. -/
theorem body_builds (i i' : grid0.Coords) (arg1 : Memref sig .tc .vmem S8x16384 .f32) (harg1 : arg1.IsWhole) (arg2 : Memref sig .tc .vmem S256x32 .f32) (harg2 : arg2.IsWhole) (arg3 : Memref sig .tc .vmem S64x32 .f32) (harg3 : arg3.IsWhole) (arg4 : Memref sig .tc .vmem S8x8 .f32) (harg4 : arg4.IsWhole) (arg5 : Memref sig .tc .vmem S8x32 .f32) (harg5 : arg5.IsWhole) (arg6 : Memref sig .tc .vmem S8x32 .f32) (harg6 : arg6.IsWhole) (arg7 : Memref sig .tc .vmem S136x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .bf16) (harg11 : arg11.IsWhole) (arg12 : Memref sig .tc .vmem S1x64 .bf16) (harg12 : arg12.IsWhole) (arg13 : Memref sig .tc .vmem S16384x256 .f32) (harg13 : arg13.IsWhole) (arg14 : Memref sig .tc .vmem S336x256 .bf16) (harg14 : arg14.IsWhole) (hc : builds i) (hc' : ¬ builds i') :
    cc0__body (F := F) i arg1 harg1 arg2 harg2 arg3 harg3 arg4 harg4 arg5 harg5 arg6 harg6 arg7 harg7 arg8 harg8 arg9 harg9 arg10 harg10 arg11 harg11 arg12 harg12 arg13 harg13 arg14 harg14
      = (buildProg i arg1 harg1 arg2 harg2 arg3 harg3 arg4 harg4 arg5 harg5 arg6 harg6 arg7 harg7 arg8 harg8 arg9 harg9 arg10 harg10 arg11 harg11 arg12 harg12 arg13 harg13 arg14 harg14 >>= fun _ => cc0__body i' arg1 harg1 arg2 harg2 arg3 harg3 arg4 harg4 arg5 harg5 arg6 harg6 arg7 harg7 arg8 harg8 arg9 harg9 arg10 harg10 arg11 harg11 arg12 harg12 arg13 harg13 arg14 harg14) := by
  simp only [cc0__body_eq_skeleton]; unfold cc0__body_skel
  simp only [k0_part3_eq_skeleton]; unfold k0_part3_skel buildProg
  simp only [dif_pos hc, dif_neg hc']
  simp only [Prog.bind_assoc]
  rfl

set_option maxHeartbeats 1000000 in
/-- `buildProg` leaves `tableOf` in the scratch, whatever was there. -/
theorem build_run (c : Dev nD) (i : grid0.Coords) (arg1 : Memref sig .tc .vmem S8x16384 .f32) (harg1 : arg1.IsWhole) (arg2 : Memref sig .tc .vmem S256x32 .f32) (harg2 : arg2.IsWhole) (arg3 : Memref sig .tc .vmem S64x32 .f32) (harg3 : arg3.IsWhole) (arg4 : Memref sig .tc .vmem S8x8 .f32) (harg4 : arg4.IsWhole) (arg5 : Memref sig .tc .vmem S8x32 .f32) (harg5 : arg5.IsWhole) (arg6 : Memref sig .tc .vmem S8x32 .f32) (harg6 : arg6.IsWhole) (arg7 : Memref sig .tc .vmem S136x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .bf16) (harg11 : arg11.IsWhole) (arg12 : Memref sig .tc .vmem S1x64 .bf16) (harg12 : arg12.IsWhole) (arg13 : Memref sig .tc .vmem S16384x256 .f32) (harg13 : arg13.IsWhole) (arg14 : Memref sig .tc .vmem S336x256 .bf16) (harg14 : arg14.IsWhole)
    (x0 : Vec F S8x16384 .f32) (x1 : Vec F S256x32 .f32) (x2 : Vec F S64x32 .f32) (x3 : Vec F S8x8 .f32) (x4 : Vec F S8x32 .f32) (x5 : Vec F S8x32 .f32) (x6 : Vec F S136x256 .f32) (x7 : Vec F S1x256 .f32) (x8 : Vec F S1x256 .f32) (x9 : Vec F S1x256 .f32) (x10 : Vec F S1x256 .bf16) (x11 : Vec F S1x64 .bf16) (E : Set ℕ) (K : PUnit → sProp 𝕄) :
    iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg14 fullShare d)
        ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg14 fullShare (tableOf x1 x2 x3 x4 x5 x6 x7)) -∗ K ⟨⟩))
      ⊢ wp frame (wpE (defs₀ (F := F)) Variants.none c none) E (buildProg i arg1 harg1 arg2 harg2 arg3 harg3 arg4 harg4 arg5 harg5 arg6 harg6 arg7 harg7 arg8 harg8 arg9 harg9 arg10 harg10 arg11 harg11 arg12 harg12 arg13 harg13 arg14 harg14) K := by
  unfold buildProg
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  iexists _; isplitr; swap
  · iexact HS
  · ipureintro
    sl_unfold_words
    simp only [View.readAt_eq_ld, Memref.IsWhole.read_unread]
    simp (disch := decide) only [View.ld_unit_lit']
    simp only [View.readCov_cons_toLoadRect]
    exact read_table _ _ _ _ _ _ _ _ _ _ _ _

/-- The run of the body at a point that builds the table: the scratch is left holding the table, and the output's window
the block that the table makes of the point's features. -/
theorem first_run (c : Dev nD) (i : grid0.Coords) (arg1 : Memref sig .tc .vmem S8x16384 .f32) (harg1 : arg1.IsWhole) (arg2 : Memref sig .tc .vmem S256x32 .f32) (harg2 : arg2.IsWhole) (arg3 : Memref sig .tc .vmem S64x32 .f32) (harg3 : arg3.IsWhole) (arg4 : Memref sig .tc .vmem S8x8 .f32) (harg4 : arg4.IsWhole) (arg5 : Memref sig .tc .vmem S8x32 .f32) (harg5 : arg5.IsWhole) (arg6 : Memref sig .tc .vmem S8x32 .f32) (harg6 : arg6.IsWhole) (arg7 : Memref sig .tc .vmem S136x256 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .bf16) (harg11 : arg11.IsWhole) (arg12 : Memref sig .tc .vmem S1x64 .bf16) (harg12 : arg12.IsWhole) (arg13 : Memref sig .tc .vmem S16384x256 .f32) (harg13 : arg13.IsWhole) (arg14 : Memref sig .tc .vmem S336x256 .bf16) (harg14 : arg14.IsWhole) (hc : builds i)
    (x0 : FVec F S8x16384 .f32)
    (x1 : FVec F S256x32 .f32)
    (x2 : FVec F S64x32 .f32)
    (x3 : FVec F S8x8 .f32)
    (x4 : FVec F S8x32 .f32)
    (x5 : FVec F S8x32 .f32)
    (x6 : FVec F S136x256 .f32)
    (x7 : FVec F S1x256 .f32)
    (x8 : FVec F S1x256 .f32)
    (x9 : FVec F S1x256 .f32)
    (x10 : FVec F S1x256 .bf16)
    (x11 : FVec F S1x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (blockOf x0 (tableOf x1 x2 x3 x4 x5 x6 x7) x8 x9 x10 x11) ∗ owns (c : Thread nD τ) arg14 fullShare (tableOf x1 x2 x3 x4 x5 x6 x7)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14) K := by
  obtain ⟨i', hc'⟩ : ∃ i' : grid0.Coords, ¬ builds i' := ⟨grid0.coords ⟨1, by decide⟩, by decide +kernel⟩
  rw [body_builds i i' arg1 harg1 arg2 harg2 arg3 harg3 arg4 harg4 arg5 harg5 arg6 harg6 arg7 harg7 arg8 harg8 arg9 harg9 arg10 harg10 arg11 harg11 arg12 harg12 arg13 harg13 arg14 harg14 hc hc', Sem.wp_bind]
  iintro ⟨H0, H1, H2, H3, H4, H5, H6, H7, H8, H9, H10, H11, HO, HS, Hk⟩
  iapply (build_run c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 E _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H1, H2, H3, H4, H5, H6, H7, HS⟩
  iapply (later_run c i' arg1 harg1 arg2 harg2 arg3 harg3 arg4 harg4 arg5 harg5 arg6 harg6 arg7 harg7 arg8 harg8 arg9 harg9 arg10 harg10 arg11 harg11 arg12 harg12 arg13 harg13 arg14 harg14 hc' x0 x1 x2 x3 x4 x5 x6 x7 x8 x9 x10 x11 (tableOf x1 x2 x3 x4 x5 x6 x7) E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HO]; · iexact HO
  isplitl [HS]; · iexact HS
  iexact Hk

end Cert.KernelIdeal.Own

end
-- ==== Proof.KernelIdeal.Run.lean ====
/-
  The launch: the data of the one pipeline (each input's window at its block; the output's window at the block of
  normalised rows; the scratch at the table from the second point on), the body's triple at every point, and what it
  gives for the whole program: it ends, its arguments are unchanged and its semaphores are back at zero.
-/
module

public import proofs.«01_k».proof.Proof.KernelIdeal.First
public import Idealize.ShloMosaic.Lib.Claim

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table is built at the first point and at no other. -/
theorem builds_iff : ∀ t : Fin cfg0.N, builds (grid0.coords t) ↔ t.val = 0 :=
  (fun t => by
    have ht : t.val < 50 := Nat.lt_of_lt_of_eq t.isLt N_0
    have e0 : (grid0.coords t 0).val = t.val / 1 % 50 := Pipeline.Grid.coords_val t 0 (by decide) rfl
    have e1 : t.val = 0 ↔ t.val % 50 = 0 := by omega
    rw [e1]
    simp only [builds, e0]
    word_cmp
   : ∀ t : Fin grid0.N, builds (grid0.coords t) ↔ t.val = 0)

/-- The first point. -/
abbrev t0 : Fin cfg0.N := ⟨0, by decide⟩

/-- The table of the memory `m`: what the first point makes of its weights' blocks. -/
def theTable (c : Dev nD) : FVec F S336x256 .bf16 :=
  tableOf (iblk m c 1 t0) (iblk m c 2 t0) (iblk m c 3 t0) (iblk m c 4 t0) (iblk m c 5 t0) (iblk m c 6 t0) (iblk m c 7 t0)

/-- The block of rows that point `t` leaves in the output's window. -/
def theBlock (c : Dev nD) (t : Fin cfg0.N) : FVec F S16384x256 .f32 :=
  blockOf (iblk m c 0 t) (theTable m c) (iblk m c 8 t) (iblk m c 9 t) (iblk m c 10 t) (iblk m c 11 t)

/-- The scratch, as the memory the body is handed. -/
abbrev scratch : Memref sig .tc .vmem S336x256 .bf16 := Memref.whole cc0_scratch0

/-- What the launch lends the body beside the windows: the scratch at any contents, and the generator's register. -/
theorem lent_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- Between points: anything in the scratch before the first, the table ever after. -/
def held (c : Dev nD) : ℕ → sProp 𝕄
  | 0 => Pipeline.ΦA spec0 c
  | _ + 1 => iprop(owns (c : Thread nD τ) scratch fullShare (theTable m c) ∗ (∃ r, prngReg c r))

/-- `held` after the first point. -/
theorem held_pos (c : Dev nD) {n : ℕ} (h : n ≠ 0) :
    held m c n = iprop(owns (c : Thread nD τ) scratch fullShare (theTable m c) ∗ (∃ r, prngReg c r)) := by
  cases n with
  | zero => exact absurd rfl h
  | succ n => rfl

/-- The pipeline's data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => theBlock m c t
  Φ t := held m c t.val
  q _ := fullShare
  owed _ := 0

/-- The arrays are what the region finds. -/
theorem A_eq (c : Dev nD) (w : Fin cfg0.W) : (dats m 0 c).A w = V m c (Pipeline.arrRef spec0 w) := by
  dsimp only [dats]

/-! What each window's buffer holds after the body, -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = theBlock m c t := by dsimp only [dats]

/-! and each input's before it. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d

/-! ## The body at a point -/

/-- What the body is handed at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- What it hands back. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t))

set_option maxHeartbeats 4000000 in
/-- The body's triple at every point: the first builds the table, every other finds it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = iprop(owns (c : Thread nD τ) scratch fullShare (theTable m c) ∗ (∃ r, prngReg c r)) from rfl,
    show (dats m 0 c).Φ t.castSucc = held m c t.val from rfl]
  by_cases hz : t.val = 0
  · obtain rfl : t = t0 := Fin.ext hz
    rw [show held m c (t0 : Fin cfg0.N).val = (Pipeline.ΦA spec0 c : sProp 𝕄) from rfl, lent_eq]
    unfold theBlock theTable
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (first_run c (grid0.coords t0) _ _ _ _ _ _ _ _ _ _ _ _ _ _ _ _ _ _ _ _ _ _ _ _ _ _ _ _ ((builds_iff t0).mpr rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0)  Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [held_pos m c hz]
    unfold theBlock
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (later_run c (grid0.coords t) _ _ _ _ _ _ _ _ _ _ _ _ _ _ _ _ _ _ _ _ _ _ _ _ _ _ _ _ (fun h => hz ((builds_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (theTable m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS]; · iexact HS
    iintro ⟨H0, H1, H2, H3, H4, H5, H6, H7, H8, H9, H10, H11, H12, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The row of the body table at point `t` is the body at that point's buffers. -/
theorem row_eq (t : Fin cfg0.N) : defs₀ (F := F) .tc cfg0.body (cfg0.bodyArgs t (cfg0.slots t)) = bodyAt0 t := by
  unfold defs₀; rw [Defs.onTc_tc]

/-- The body's triples, as the library asks for them. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- What the launch lends is what the first point starts from. -/
theorem lend (c : Dev nD) : Pipeline.ΦA spec0 c ⊢ (dats m 0 c).Φ 0 := Idealize.SL.BI.Entails.refl _

/-- After the last point the scratch is given back, the table in it forgotten. -/
theorem giveBack (c : Dev nD) : (dats m 0 c).Φ (Fin.last cfg0.N) ⊢ Pipeline.ΦA spec0 c := by
  rw [show (dats m 0 c).Φ (Fin.last cfg0.N) = held m c (Fin.last cfg0.N).val from rfl,
    held_pos m c (by rw [Fin.val_last]; decide), lent_eq]
  iintro ⟨HS, Hg⟩
  isplitl [HS]
  · iexists _; iexact HS
  iexact Hg

set_option backward.isDefEq.respectTransparency.types false in
set_option maxHeartbeats 800000 in
/-- The program ends, with the pipeline's arrays at what the data says, the rest of memory as the last lines leave it,
and every semaphore at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := lend m) (hout := giveBack m)

/-- `run_quiescent` without the semaphores. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The program ends with its arguments unchanged and its semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_quiescent m ρ))

end Cert.KernelIdeal.Own

end
-- ==== Proof.KernelIdeal.Arrays.lean ====
/-
  What the launch's windows hold, over the extended reals, as entries of the program's arguments: the features one column
  per token, the two small feature tables put together by the host, and the labels counted from zero.
-/
module

public import proofs.«01_k».proof.Proof.KernelIdeal.Run
public import Idealize.ShloMosaic.Lib.StableHlo.ReadAt
public import Idealize.ShloMosaic.Lib.Pipeline.ValueKit.Point
public import Idealize.ShloMosaic.Lib.Pointwise

@[expose] public section

set_option maxRecDepth 16384

noncomputable section

namespace Cert.KernelIdeal.Own

open Idealize.ShloMosaic Idealize.ShloMosaic.TcCoe
open Cert.KernelIdeal Cert.KernelIdeal.Gen

variable (m : (ℓ : Loc nD τ sig) → Buf (Elt Ideal) ℓ) (c : Dev nD)

/-! ## The arrays the host prepares -/

/-- Feature `k` of a token is row `k` of the prepared features, at the token's place in the row. -/
theorem V_features (k : Fin 5) (s : Fin 4096) (t : Fin 200) (hn : s.val * 200 + t.val < 819200) :
    V m c main_v2 (ix2 (⟨k.val, by omega⟩ : Fin 8) (⟨s.val * 200 + t.val, hn⟩ : Fin 819200))
      = m ((c : Thread nD τ).loc main_arg0) (ix3 s t k) := by
  unfold V V0
  dsimp only [hostOps0, hostOps0_1, hostOps0_2, hostOps0_3, hostOps0_4, List.flatten_cons, List.flatten_nil, List.append_nil, List.cons_append, List.nil_append]
  after_reads_at
  rw [dif_pos hn]
  have e1 : (s.val * 200 + t.val) / 200 = s.val := by omega
  have e2 : (s.val * 200 + t.val) % 200 = t.val := by omega
  exact congrArg (m ((c : Thread nD τ).loc main_arg0)) (congrArg₂ (fun a b => ix3 a b k) (Fin.ext e1) (Fin.ext e2))

/-- The third embedding's rows are the first two of the padded ones. -/
theorem V_dir (k : Fin 2) (j : Fin 8) :
    V m c main_v3 (ix2 (⟨k.val, by omega⟩ : Fin 8) j) = m ((c : Thread nD τ).loc main_arg3) (ix2 k j) := by
  unfold V V0
  dsimp only [hostOps0, hostOps0_1, hostOps0_2, hostOps0_3, hostOps0_4, List.flatten_cons, List.flatten_nil, List.append_nil, List.cons_append, List.nil_append]
  after_reads_at

theorem V_len_0 (j : Fin 32) : V m c main_v6 (ix2 (0 : Fin 8) j) = m ((c : Thread nD τ).loc main_arg4) (ix2 (0 : Fin 1) j) := by
  unfold V V0
  dsimp only [hostOps0, hostOps0_1, hostOps0_2, hostOps0_3, hostOps0_4, List.flatten_cons, List.flatten_nil, List.append_nil, List.cons_append, List.nil_append]
  after_reads_at

theorem V_len_1 (j : Fin 32) : V m c main_v6 (ix2 (1 : Fin 8) j) = m ((c : Thread nD τ).loc main_arg5) (ix1 j) := by
  unfold V V0
  dsimp only [hostOps0, hostOps0_1, hostOps0_2, hostOps0_3, hostOps0_4, List.flatten_cons, List.flatten_nil, List.append_nil, List.cons_append, List.nil_append]
  after_reads_at
  rw [StableHlo.unary_result]
  after_reads_at

theorem V_iat_0 (j : Fin 32) : V m c main_v9 (ix2 (0 : Fin 8) j) = m ((c : Thread nD τ).loc main_arg6) (ix2 (0 : Fin 1) j) := by
  unfold V V0
  dsimp only [hostOps0, hostOps0_1, hostOps0_2, hostOps0_3, hostOps0_4, List.flatten_cons, List.flatten_nil, List.append_nil, List.cons_append, List.nil_append]
  after_reads_at

theorem V_iat_1 (j : Fin 32) : V m c main_v9 (ix2 (1 : Fin 8) j) = m ((c : Thread nD τ).loc main_arg7) (ix1 j) := by
  unfold V V0
  dsimp only [hostOps0, hostOps0_1, hostOps0_2, hostOps0_3, hostOps0_4, List.flatten_cons, List.flatten_nil, List.append_nil, List.cons_append, List.nil_append]
  after_reads_at
  rw [StableHlo.unary_result]
  after_reads_at

theorem V_bias (j : Fin 256) : V m c main_v10 (ix2 (0 : Fin 1) j) = m ((c : Thread nD τ).loc main_arg9) (ix1 j) := by
  unfold V V0
  dsimp only [hostOps0, hostOps0_1, hostOps0_2, hostOps0_3, hostOps0_4, List.flatten_cons, List.flatten_nil, List.append_nil, List.cons_append, List.nil_append]
  after_reads_at

theorem V_gamma (j : Fin 256) : V m c main_v11 (ix2 (0 : Fin 1) j) = m ((c : Thread nD τ).loc main_arg10) (ix1 j) := by
  unfold V V0
  dsimp only [hostOps0, hostOps0_1, hostOps0_2, hostOps0_3, hostOps0_4, List.flatten_cons, List.flatten_nil, List.append_nil, List.cons_append, List.nil_append]
  after_reads_at

theorem V_beta (j : Fin 256) : V m c main_v12 (ix2 (0 : Fin 1) j) = m ((c : Thread nD τ).loc main_arg11) (ix1 j) := by
  unfold V V0
  dsimp only [hostOps0, hostOps0_1, hostOps0_2, hostOps0_3, hostOps0_4, List.flatten_cons, List.flatten_nil, List.append_nil, List.cons_append, List.nil_append]
  after_reads_at

/-- A small natural number's word as a number. -/
theorem sitofp_small (n : ℕ) (h : n < 256) : FloatOps.sitofp (F := Ideal) .bf16 (BitVec.ofNat 32 n) = ((n : ℝ) : EReal) := by
  have e : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [e]; norm_cast

theorem V_labels (j : Fin 256) : V m c main_v14 (ix2 (0 : Fin 1) j) = ((j.val : ℝ) : EReal) := by
  unfold V V0
  dsimp only [hostOps0, hostOps0_1, hostOps0_2, hostOps0_3, hostOps0_4, List.flatten_cons, List.flatten_nil, List.append_nil, List.cons_append, List.nil_append]
  after_reads_at
  exact sitofp_small _ j.isLt

theorem V_labels' (j : Fin 64) : V m c main_v16 (ix2 (0 : Fin 1) j) = ((j.val : ℝ) : EReal) := by
  unfold V V0
  dsimp only [hostOps0, hostOps0_1, hostOps0_2, hostOps0_3, hostOps0_4, List.flatten_cons, List.flatten_nil, List.append_nil, List.cons_append, List.nil_append]
  after_reads_at
  exact sitofp_small _ (by omega)

/-! ## The windows' blocks -/

/-- Point `t` takes the `t`-th block of the features and of the output, and the one block of every other array. -/
theorem idx (t : Fin cfg0.N) : win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, win0_0.index t = ![0, t.val] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![t.val, 0]) t

theorem block_0 (t : Fin cfg0.N) (k : Fin 8) (r : Fin 16384) (h : t.val * 16384 + r.val < 819200) :
    iblk m c 0 t (ix2 k r) = V m c main_v2 (ix2 k (⟨t.val * 16384 + r.val, h⟩ : Fin 819200)) := by
  blk_ext [iblk, (idx t).1]
theorem block_1 (t : Fin cfg0.N) (k : Fin 256) (j : Fin 32) : iblk m c 1 t (ix2 k j) = m ((c : Thread nD τ).loc main_arg1) (ix2 k j) := by
  rw [← V_main_arg1 m c]; blk_ext [iblk, (idx t).2.1]
theorem block_2 (t : Fin cfg0.N) (k : Fin 64) (j : Fin 32) : iblk m c 2 t (ix2 k j) = m ((c : Thread nD τ).loc main_arg2) (ix2 k j) := by
  rw [← V_main_arg2 m c]; blk_ext [iblk, (idx t).2.2.1]
theorem block_3 (t : Fin cfg0.N) (k : Fin 8) (j : Fin 8) : iblk m c 3 t (ix2 k j) = V m c main_v3 (ix2 k j) := by
  blk_ext [iblk, (idx t).2.2.2.1]
theorem block_4 (t : Fin cfg0.N) (k : Fin 8) (j : Fin 32) : iblk m c 4 t (ix2 k j) = V m c main_v6 (ix2 k j) := by
  blk_ext [iblk, (idx t).2.2.2.2.1]
theorem block_5 (t : Fin cfg0.N) (k : Fin 8) (j : Fin 32) : iblk m c 5 t (ix2 k j) = V m c main_v9 (ix2 k j) := by
  blk_ext [iblk, (idx t).2.2.2.2.2.1]
theorem block_6 (t : Fin cfg0.N) (k : Fin 136) (j : Fin 256) : iblk m c 6 t (ix2 k j) = m ((c : Thread nD τ).loc main_arg8) (ix2 k j) := by
  rw [← V_main_arg8 m c]; blk_ext [iblk, (idx t).2.2.2.2.2.2.1]
theorem block_7 (t : Fin cfg0.N) (j : Fin 256) : iblk m c 7 t (ix2 (0 : Fin 1) j) = V m c main_v10 (ix2 (0 : Fin 1) j) := by
  blk_ext [iblk, (idx t).2.2.2.2.2.2.2.1]
theorem block_8 (t : Fin cfg0.N) (j : Fin 256) : iblk m c 8 t (ix2 (0 : Fin 1) j) = V m c main_v11 (ix2 (0 : Fin 1) j) := by
  blk_ext [iblk, (idx t).2.2.2.2.2.2.2.2.1]
theorem block_9 (t : Fin cfg0.N) (j : Fin 256) : iblk m c 9 t (ix2 (0 : Fin 1) j) = V m c main_v12 (ix2 (0 : Fin 1) j) := by
  blk_ext [iblk, (idx t).2.2.2.2.2.2.2.2.2.1]
theorem block_10 (t : Fin cfg0.N) (j : Fin 256) : iblk m c 10 t (ix2 (0 : Fin 1) j) = V m c main_v14 (ix2 (0 : Fin 1) j) := by
  blk_ext [iblk, (idx t).2.2.2.2.2.2.2.2.2.2.1]
theorem block_11 (t : Fin cfg0.N) (j : Fin 64) : iblk m c 11 t (ix2 (0 : Fin 1) j) = V m c main_v16 (ix2 (0 : Fin 1) j) := by
  blk_ext [iblk, (idx t).2.2.2.2.2.2.2.2.2.2.2.1]

end Cert.KernelIdeal.Own

end
-- ==== Proof.Math.Reals.lean ====
/-
  Extended reals that are, or are not, real: sums and products of the two kinds, and the centring of a row of 256.
-/
module

public import Idealize.ShloMosaic.Lib.IdealHost

@[expose] public section

noncomputable section

namespace Cert.Own

open Idealize.ShloMosaic

/-- The value is a real number. -/
def Fin' (a : EReal) : Prop := ∃ r : ℝ, a = (r : EReal)

/-- The value is one of the two infinities. -/
def Inf (a : EReal) : Prop := a = ⊤ ∨ a = ⊥

theorem fin_or_inf (a : EReal) : Fin' a ∨ Inf a := by
  induction a with
  | bot => exact .inr (.inr rfl)
  | top => exact .inr (.inl rfl)
  | coe r => exact .inl ⟨r, rfl⟩

theorem not_inf_coe (r : ℝ) : ¬ Inf (r : EReal) := by
  rintro (h | h)
  · exact EReal.coe_ne_top r h
  · exact EReal.coe_ne_bot r h

theorem fin_of_not_inf {a : EReal} (h : ¬ Inf a) : Fin' a := (fin_or_inf a).resolve_right h

theorem fin_zero : Fin' 0 := ⟨0, rfl⟩

theorem Fin'.add {a b : EReal} : Fin' a → Fin' b → Fin' (a + b) := by
  rintro ⟨r, rfl⟩ ⟨s, rfl⟩; exact ⟨r + s, (EReal.coe_add r s).symm⟩

theorem Fin'.mul {a b : EReal} : Fin' a → Fin' b → Fin' (a * b) := by
  rintro ⟨r, rfl⟩ ⟨s, rfl⟩; exact ⟨r * s, (EReal.coe_mul r s).symm⟩

/-- A sum of reals is the real sum. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem Fin'.sum {ι : Type} [Fintype ι] {f : ι → EReal} (h : ∀ i, Fin' (f i)) : Fin' (∑ i, f i) := by
  choose g hg using h
  exact ⟨∑ i, g i, by rw [coe_sum]; exact Finset.sum_congr rfl fun i _ => hg i⟩

theorem Inf.add_left {a : EReal} (h : Inf a) (b : EReal) : Inf (a + b) := by
  rcases h with rfl | rfl
  · induction b with
    | bot => exact .inr rfl
    | top => exact .inl rfl
    | coe r => exact .inl (EReal.top_add_coe r)
  · exact .inr (EReal.bot_add b)

theorem Inf.add_right {b : EReal} (h : Inf b) (a : EReal) : Inf (a + b) := add_comm b a ▸ h.add_left a

theorem Inf.neg {a : EReal} (h : Inf a) : Inf (-a) := by
  rcases h with rfl | rfl
  · exact .inr EReal.neg_top
  · exact .inl EReal.neg_bot

theorem Inf.sub_left {a : EReal} (h : Inf a) (b : EReal) : Inf (a - b) := by
  rw [sub_eq_add_neg]; exact h.add_left _

theorem Inf.sub_right {b : EReal} (h : Inf b) (a : EReal) : Inf (a - b) := by
  rw [sub_eq_add_neg]; exact h.neg.add_right _

theorem Inf.sum {ι : Type} [Fintype ι] [DecidableEq ι] {f : ι → EReal} {j : ι} (h : Inf (f j)) : Inf (∑ i, f i) := by
  rw [← Finset.add_sum_erase Finset.univ f (Finset.mem_univ j)]; exact h.add_left _

/-- An infinity times a real that is not zero. -/
theorem Inf.mul_coe {a : EReal} (h : Inf a) {r : ℝ} (hr : r ≠ 0) : Inf (a * r) := by
  rcases lt_or_gt_of_ne hr with hr | hr <;> rcases h with rfl | rfl
  · exact .inr (EReal.top_mul_coe_of_neg hr)
  · exact .inl (EReal.bot_mul_coe_of_neg hr)
  · exact .inl (EReal.top_mul_coe_of_pos hr)
  · exact .inr (EReal.bot_mul_coe_of_pos hr)

theorem Inf.mul_self {a : EReal} (h : Inf a) : a * a = ⊤ := by
  rcases h with rfl | rfl
  · exact EReal.top_mul_top
  · exact EReal.bot_mul_bot

/-- A sum of squares with an infinity among them. -/
theorem sum_sq_top {ι : Type} [Fintype ι] [DecidableEq ι] {f : ι → EReal} {j : ι} (h : Inf (f j)) : ∑ i, f i * f i = ⊤ := by
  have hs : Inf (∑ i, f i * f i) := Inf.sum (j := j) (.inl h.mul_self)
  refine hs.resolve_right fun hb => ?_
  have h0 : (0 : EReal) ≤ ∑ i, f i * f i := Finset.sum_nonneg fun i _ => by
    rcases fin_or_inf (f i) with ⟨r, hr⟩ | hi
    · rw [hr, ← EReal.coe_mul]; exact EReal.coe_nonneg.mpr (mul_self_nonneg r)
    · rw [hi.mul_self]; exact le_top
  rw [hb] at h0
  exact absurd h0 (not_le.mpr (EReal.bot_lt_zero))

/-- A division by a real that is not zero. -/
theorem div_coe (a : EReal) {r : ℝ} (hr : r ≠ 0) : Ideal.div a r = a * ((r⁻¹ : ℝ) : EReal) := by
  unfold Ideal.div
  rw [if_neg (by exact_mod_cast hr), EReal.coe_inv]

theorem Inf.div_coe {a : EReal} (h : Inf a) {r : ℝ} (hr : r ≠ 0) : Inf (Ideal.div a r) := by
  rw [Own.div_coe a hr]; exact h.mul_coe (inv_ne_zero hr)

/-! ## Centring -/

/-- A row less its mean. -/
def cen (v : Fin 256 → EReal) (j : Fin 256) : EReal := v j - Ideal.div (∑ i, v i) ((256 : ℝ) : EReal)

/-- The same of reals. -/
def cenR (v : Fin 256 → ℝ) (j : Fin 256) : ℝ := v j - (∑ i, v i) * (256 : ℝ)⁻¹

theorem cen_coe (v : Fin 256 → ℝ) (j : Fin 256) : cen (fun i => (v i : EReal)) j = (cenR v j : EReal) := by
  unfold cen cenR
  rw [div_coe _ (by norm_num), ← coe_sum, ← EReal.coe_mul, ← EReal.coe_sub]

/-- An infinity anywhere in a row makes every entry of the centred row one. -/
theorem inf_cen {v : Fin 256 → EReal} {j : Fin 256} (h : Inf (v j)) (i : Fin 256) : Inf (cen v i) :=
  ((Inf.sum h).div_coe (by norm_num)).sub_right _

theorem cenR_add (v w : Fin 256 → ℝ) (j : Fin 256) : cenR (fun i => v i + w i) j = cenR v j + cenR w j := by
  unfold cenR; rw [Finset.sum_add_distrib]; ring

theorem cenR_sub (v w : Fin 256 → ℝ) (j : Fin 256) : cenR (fun i => v i - w i) j = cenR v j - cenR w j := by
  unfold cenR; rw [Finset.sum_sub_distrib]; ring

theorem cenR_mul (a : ℝ) (v : Fin 256 → ℝ) (j : Fin 256) : cenR (fun i => a * v i) j = a * cenR v j := by
  unfold cenR; rw [← Finset.mul_sum]; ring

/-! ## Normalising -/

/-- A centred row times the reciprocal root of its mean square, scaled and shifted. -/
def normC (c γ β : Fin 256 → EReal) (j : Fin 256) : EReal :=
  c j * (Ideal.rsqrt (Ideal.div (∑ i, c i * c i) ((256 : ℝ) : EReal) + Ideal.ofBits .f32 0x3727C5AC#32) * γ j) + β j

/-- A row less its mean, over the root of its variance, scaled and shifted. -/
def normH (h γ β : Fin 256 → EReal) (j : Fin 256) : EReal :=
  Ideal.div (cen h j) (Ideal.sqrt (Ideal.div (∑ i, cen h i * cen h i) ((256 : ℝ) : EReal)
    + Ideal.ofBits .f32 0x3727C5AC#32)) * γ j + β j

/-- The small constant is a positive real. -/
theorem eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

theorem bits_256 : Ideal.ofBits .f32 0x43800000#32 = ((256 : ℝ) : EReal) := by
  simp [Ideal.ofBits, Ideal.ieee, -EReal.coe_mul]; norm_num

theorem bits_255 : Ideal.ofBits .f32 0x437F0000#32 = ((255 : ℝ) : EReal) := by
  simp [Ideal.ofBits, Ideal.ieee, -EReal.coe_mul]; norm_num

theorem bits_63 : Ideal.ofBits .f32 0x427C0000#32 = ((63 : ℝ) : EReal) := by
  simp [Ideal.ofBits, Ideal.ieee, -EReal.coe_mul]; norm_num

theorem bits_top : Ideal.ofBits .f32 0x7F800000#32 = ⊤ := by
  simp [Ideal.ofBits, Ideal.ieee]

/-- A centred row with an infinity in it normalises to the shift. -/
theorem normC_inf {c : Fin 256 → EReal} {i : Fin 256} (h : Inf (c i)) (γ β : Fin 256 → EReal) (j : Fin 256) :
    normC c γ β j = β j := by
  obtain ⟨e, -, he⟩ := eps_pos
  unfold normC
  rw [sum_sq_top h, div_coe _ (by norm_num), EReal.top_mul_coe_of_pos (by norm_num), he, EReal.top_add_coe,
    Ideal.rsqrt_top, zero_mul, mul_zero, zero_add]

/-- A row with an infinity in it normalises to the shift. -/
theorem normH_inf {h : Fin 256 → EReal} {i : Fin 256} (hi : Inf (h i)) (γ β : Fin 256 → EReal) (j : Fin 256) :
    normH h γ β j = β j := by
  obtain ⟨e, -, he⟩ := eps_pos
  unfold normH
  rw [sum_sq_top (inf_cen hi i), div_coe _ (by norm_num), EReal.top_mul_coe_of_pos (by norm_num), he, EReal.top_add_coe,
    Ideal.sqrt_top]
  unfold Ideal.div
  rw [if_neg (by decide), EReal.inv_top, mul_zero, zero_mul, zero_add]

/-- For a row of reals the two ways to normalise agree. -/
theorem norm_coe (h : Fin 256 → ℝ) (γ β : Fin 256 → EReal) (j : Fin 256) :
    normC (fun i => (cenR h i : EReal)) γ β j = normH (fun i => (h i : EReal)) γ β j := by
  obtain ⟨e, he, hE⟩ := eps_pos
  unfold normC normH
  simp only [cen_coe, hE]
  simp only [← EReal.coe_mul, ← coe_sum]
  rw [div_coe _ (by norm_num), ← EReal.coe_mul, ← EReal.coe_add]
  have hp : 0 < (∑ i, cenR h i * cenR h i) * (256 : ℝ)⁻¹ + e :=
    add_pos_of_nonneg_of_pos (mul_nonneg (Finset.sum_nonneg fun i _ => mul_self_nonneg _) (by norm_num)) he
  have hs := Real.sqrt_pos.mpr hp
  rw [Ideal.rsqrt_coe, Ideal.sqrt_coe, if_neg (not_lt.mpr hp.le), if_neg (not_lt.mpr hp.le), if_neg hp.ne',
    div_coe _ hs.ne', mul_assoc]

end Cert.Own

end
-- ==== Proof.Math.Token.lean ====
/-
  One token, two ways: the sum of centred table rows, and the centring of the sum of the features' rows.
-/
module

public import proofs.«01_k».proof.Proof.Math.Reals

@[expose] public section

noncomputable section

namespace Cert.Own

open Idealize.ShloMosaic

/-- A real times a row, where either the real is zero or the row is real: a real row stands for it. -/
theorem scaled (x : ℝ) (u : Fin 256 → EReal) (h : x = 0 ∨ ∀ j, Fin' (u j)) :
    ∃ r : Fin 256 → ℝ, (∀ j, (x : EReal) * u j = ((x * r j : ℝ) : EReal))
      ∧ ∀ j, (x : EReal) * cen u j = ((x * cenR r j : ℝ) : EReal) := by
  rcases h with rfl | h
  · exact ⟨fun _ => 0, fun j => by simp, fun j => by simp⟩
  · choose r hr using h
    obtain rfl : u = fun j => (r j : EReal) := funext hr
    exact ⟨r, fun j => (EReal.coe_mul _ _).symm, fun j => by rw [cen_coe, EReal.coe_mul]⟩

/-- How a feature's row `L` goes with its two table rows: real and linear in them, or infinite at a place where the
    table's part is infinite as well. -/
def Agree (x : ℝ) (u0 u1 L : Fin 256 → EReal) : Prop :=
  ((∀ j, Fin' (u1 j)) ∧ (x = 0 ∨ ∀ j, Fin' (u0 j)) ∧ ∀ j, L j = (x : EReal) * u0 j + u1 j)
    ∨ ∃ j, Inf (L j) ∧ (Inf (u1 j) ∨ (Inf (u0 j) ∧ x ≠ 0))

/-- A feature that is a real times a row plus another, through real weights. -/
theorem agree_dot {n : Nat} (x : ℝ) (w b : Fin n → EReal) (f : Fin n → Fin 256 → EReal) (hf : ∀ k j, Fin' (f k j)) :
    Agree x (fun j => ∑ k, w k * f k j) (fun j => ∑ k, b k * f k j) (fun j => ∑ k, ((x : EReal) * w k + b k) * f k j) := by
  choose g hg using hf
  simp only [hg]
  by_cases hb : ∃ k j, Inf (b k) ∧ g k j ≠ 0
  · obtain ⟨k, j, hk, hg0⟩ := hb
    exact .inr ⟨j, Inf.sum (j := k) ((hk.add_right _).mul_coe hg0), .inl (Inf.sum (j := k) (hk.mul_coe hg0))⟩
  by_cases hw : ∃ k j, Inf (w k) ∧ g k j ≠ 0
  · obtain ⟨k, j, hk, hg0⟩ := hw
    by_cases hx : x = 0
    · subst hx
      left
      refine ⟨fun j => Fin'.sum fun i => ?_, .inl rfl, fun j => ?_⟩
      · by_cases h0 : g i j = 0
        · rw [h0]; exact ⟨0, by simp⟩
        · exact (fin_of_not_inf fun h => hb ⟨i, j, h, h0⟩).mul ⟨_, rfl⟩
      · rw [EReal.coe_zero, zero_mul, zero_add]
        exact Finset.sum_congr rfl fun i _ => by rw [zero_mul, zero_add]
    · exact .inr ⟨j, Inf.sum (j := k) (Inf.mul_coe (Inf.add_left (by rw [mul_comm]; exact hk.mul_coe hx) _) hg0),
        .inr ⟨Inf.sum (j := k) (hk.mul_coe hg0), hx⟩⟩
  · left
    have hR : ∀ (v : Fin n → EReal), (¬ ∃ k j, Inf (v k) ∧ g k j ≠ 0) → ∃ r : Fin n → ℝ, ∀ k j,
        g k j ≠ 0 → v k = r k := by
      intro v hv
      refine ⟨fun k => (v k).toReal, fun k j h0 => ?_⟩
      obtain ⟨r, hr⟩ := fin_of_not_inf fun h => hv ⟨k, j, h, h0⟩
      show v k = ((v k).toReal : EReal)
      rw [hr, EReal.toReal_coe]
    obtain ⟨rb, hrb⟩ := hR b hb
    obtain ⟨rw', hrw⟩ := hR w hw
    have eb : ∀ j, ∑ k, b k * (g k j : EReal) = ((∑ k, rb k * g k j : ℝ) : EReal) := fun j => by
      rw [coe_sum]
      refine Finset.sum_congr rfl fun k _ => ?_
      by_cases h0 : g k j = 0
      · simp [h0]
      · rw [hrb k j h0, EReal.coe_mul]
    have ew : ∀ j, ∑ k, w k * (g k j : EReal) = ((∑ k, rw' k * g k j : ℝ) : EReal) := fun j => by
      rw [coe_sum]
      refine Finset.sum_congr rfl fun k _ => ?_
      by_cases h0 : g k j = 0
      · simp [h0]
      · rw [hrw k j h0, EReal.coe_mul]
    refine ⟨fun j => ⟨_, eb j⟩, .inr fun j => ⟨_, ew j⟩, fun j => ?_⟩
    beta_reduce
    rw [eb, ew, ← EReal.coe_mul, ← EReal.coe_add, Finset.mul_sum, ← Finset.sum_add_distrib, coe_sum]
    refine Finset.sum_congr rfl fun k _ => ?_
    by_cases h0 : g k j = 0
    · simp [h0]
    · rw [hrw k j h0, hrb k j h0, ← EReal.coe_mul, ← EReal.coe_add, ← EReal.coe_mul]
      congr 1; ring

/-- The row of the table that every token takes. -/
def baseRow (t0 b u1 w1 : Fin 256 → EReal) (j : Fin 256) : EReal := t0 j + b j + u1 j + w1 j

/-- A token's centred row, a sum over the table. -/
def tableTok (P Fl t0 t1 u0 u1 w0 w1 b : Fin 256 → EReal) (d x y : EReal) (j : Fin 256) : EReal :=
  cen P j + cen Fl j + cen (baseRow t0 b u1 w1) j + d * cen (fun i => t1 i - t0 i) j
    + (x * cen u0 j + (x - x) * cen u0 j) + (y * cen w0 j + (y - y) * cen w0 j)

/-- A token's row, the sum of its features' rows. -/
def featTok (P Fl D L I b : Fin 256 → EReal) (j : Fin 256) : EReal := P j + Fl j + D j + L j + I j + b j

theorem real_or_inf_row (v : Fin 256 → EReal) : (∃ r : Fin 256 → ℝ, v = fun j => (r j : EReal)) ∨ ∃ j, Inf (v j) := by
  by_cases h : ∃ j, Inf (v j)
  · exact .inr h
  · left
    choose r hr using fun j => fin_of_not_inf fun hj => h ⟨j, hj⟩
    exact ⟨r, funext hr⟩

/-- The two ways agree after the normalisation. -/
theorem token (P Fl t0 t1 u0 u1 w0 w1 b L I γ β : Fin 256 → EReal) (x y : ℝ) (d : ℝ) (hd : d = 0 ∨ d = 1)
    (D : Fin 256 → EReal) (hD : D = if d = 1 then t1 else t0) (ht : ∀ j, Fin' (t0 j))
    (hL : Agree x u0 u1 L) (hI : Agree y w0 w1 I) (j : Fin 256) :
    normC (tableTok P Fl t0 t1 u0 u1 w0 w1 b (d : EReal) x y) γ β j = normH (featTok P Fl D L I b) γ β j := by
  have both : ∀ i i', Inf (tableTok P Fl t0 t1 u0 u1 w0 w1 b (d : EReal) x y i) → Inf (featTok P Fl D L I b i') →
      normC (tableTok P Fl t0 t1 u0 u1 w0 w1 b (d : EReal) x y) γ β j = normH (featTok P Fl D L I b) γ β j :=
    fun i i' h h' => by rw [normC_inf h, normH_inf h']
  have base_inf : ∀ i, Inf (baseRow t0 b u1 w1 i) → Inf (tableTok P Fl t0 t1 u0 u1 w0 w1 b (d : EReal) x y i) :=
    fun i h => (((inf_cen h i).add_right _).add_left _).add_left _ |>.add_left _
  rcases real_or_inf_row P with ⟨P, rfl⟩ | ⟨i, hi⟩
  swap
  · exact both i i ((((inf_cen hi i).add_left _).add_left _).add_left _ |>.add_left _ |>.add_left _)
      ((((hi.add_left _).add_left _).add_left _).add_left _ |>.add_left _)
  rcases real_or_inf_row Fl with ⟨Fl, rfl⟩ | ⟨i, hi⟩
  swap
  · exact both i i ((((inf_cen hi i).add_right _).add_left _).add_left _ |>.add_left _ |>.add_left _)
      ((((hi.add_right _).add_left _).add_left _).add_left _ |>.add_left _)
  rcases real_or_inf_row b with ⟨b, rfl⟩ | ⟨i, hi⟩
  swap
  · exact both i i (base_inf i (((hi.add_right _).add_left _).add_left _)) (hi.add_right _)
  rcases hL with ⟨hu1, hu0, hL⟩ | ⟨i, hi, hi'⟩
  swap
  · refine both i i ?_ (((hi.add_right _).add_left _).add_left _)
    rcases hi' with hi' | ⟨hi', hx⟩
    · exact base_inf i ((hi'.add_right _).add_left _)
    · exact ((Inf.add_left (by rw [mul_comm]; exact (inf_cen hi' i).mul_coe hx) _).add_right _).add_left _
  rcases hI with ⟨hw1, hw0, hI⟩ | ⟨i, hi, hi'⟩
  swap
  · refine both i i ?_ ((hi.add_right _).add_left _)
    rcases hi' with hi' | ⟨hi', hx⟩
    · exact base_inf i (hi'.add_right _)
    · exact (Inf.add_left (by rw [mul_comm]; exact (inf_cen hi' i).mul_coe hx) _).add_right _
  choose t0 ht using ht
  obtain rfl := funext ht
  have hDd : (∃ i, Inf (D i) ∧ Inf (t1 i) ∧ d = 1) ∨ (d = 0 ∨ ∀ i, Fin' (t1 i)) := by
    rcases hd with h0 | h1
    · exact .inr (.inl h0)
    · rcases real_or_inf_row t1 with ⟨r, hr⟩ | ⟨i, hi⟩
      · exact .inr (.inr fun i => ⟨r i, congrFun hr i⟩)
      · exact .inl ⟨i, by rw [hD, if_pos h1]; exact hi, hi, h1⟩
  rcases hDd with ⟨i, hDi, hti, rfl⟩ | hDd
  · refine both i i ?_ ((((hDi.add_right _).add_left _).add_left _).add_left _)
    exact ((Inf.add_right (by rw [mul_comm]; exact (inf_cen (v := fun i => t1 i - (t0 i : EReal)) (hti.sub_left _) i).mul_coe one_ne_zero) _).add_left _).add_left _
  choose u1 hu1 using hu1
  obtain rfl := funext hu1
  choose w1 hw1 using hw1
  obtain rfl := funext hw1
  obtain ⟨u0', hu0m, hu0c⟩ := scaled x u0 hu0
  obtain ⟨w0', hw0m, hw0c⟩ := scaled y w0 hw0
  obtain ⟨dl, hdm, hdc⟩ := scaled d (fun i => t1 i - (t0 i : EReal))
    (hDd.imp_right fun h i => by obtain ⟨r, hr⟩ := h i; exact ⟨r - t0 i, by rw [hr, EReal.coe_sub]⟩)
  have hDr : ∀ i, D i = ((t0 i + d * dl i : ℝ) : EReal) := by
    intro i
    rw [EReal.coe_add, ← hdm, hD]
    rcases hd with rfl | rfl
    · rw [if_neg (by norm_num), EReal.coe_zero, zero_mul, add_zero]
    · rw [if_pos rfl, EReal.coe_one, one_mul]
      obtain ⟨r, hr⟩ := (hDd.resolve_left one_ne_zero) i
      rw [hr, ← EReal.coe_sub, ← EReal.coe_add]
      congr 1; ring
  have xx : ∀ r : ℝ, (r : EReal) - r = 0 := fun r => by rw [← EReal.coe_sub, sub_self, EReal.coe_zero]
  let h : Fin 256 → ℝ := fun i => P i + Fl i + (t0 i + d * dl i) + (x * u0' i + u1 i) + (y * w0' i + w1 i) + b i
  have e1 : featTok (fun j => (P j : EReal)) (fun j => (Fl j : EReal)) D L I (fun j => (b j : EReal)) = fun i => (h i : EReal) := by
    funext i
    unfold featTok
    rw [hDr, hL, hI, hu0m, hw0m]
    simp only [← EReal.coe_add]
    rfl
  have e2 : tableTok (fun j => (P j : EReal)) (fun j => (Fl j : EReal)) (fun j => (t0 j : EReal)) t1 u0 (fun j => (u1 j : EReal)) w0
      (fun j => (w1 j : EReal)) (fun j => (b j : EReal)) (d : EReal) x y = fun i => (cenR h i : EReal) := by
    funext i
    have eb : baseRow (fun j => (t0 j : EReal)) (fun j => (b j : EReal)) (fun j => (u1 j : EReal)) (fun j => (w1 j : EReal))
        = fun j => ((t0 j + b j + u1 j + w1 j : ℝ) : EReal) := funext fun j => by
      unfold baseRow; simp only [EReal.coe_add]
    unfold tableTok
    rw [eb, cen_coe, cen_coe, cen_coe, hdc, hu0c, hw0c, xx, xx, zero_mul, zero_mul, add_zero, add_zero]
    simp only [← EReal.coe_add]
    congr 1
    simp only [h, cenR_add, cenR_mul]
    ring
  rw [e1, e2]
  exact norm_coe h γ β j

end Cert.Own

end
-- ==== Proof.Math.Index.lean ====
/-
  A feature as a table index: its whole part clipped to `[0, hi]`, as the kernel's floats have it and as the reference's
  words have it.
-/
module

public import proofs.«01_k».proof.Proof.Math.Reals

@[expose] public section

set_option maxRecDepth 16384

noncomputable section

namespace Cert.Own

open Idealize.ShloMosaic

/-- A number's whole part toward zero, clamped to what a 32-bit word holds. -/
def whole (v : EReal) : ℤ := Ideal.toIntClamped (-(2147483648 : ℤ)) 2147483647 v

/-- The index a number picks: its whole part clipped to `[0, hi]`. -/
def pick (hi : ℕ) (v : EReal) : Fin (hi + 1) := ⟨(max 0 (min (hi : ℤ) (whole v))).toNat, by omega⟩

/-- The whole part fits in a word. -/
theorem whole_bounds (v : EReal) : -(2147483648 : ℤ) ≤ whole v ∧ whole v ≤ 2147483647 := by
  unfold whole
  induction v with
  | bot => simp
  | top => simp
  | coe r => rw [Ideal.toIntClamped_coe]; omega

/-- The index as a whole number. -/
theorem pick_val (hi : ℕ) (v : EReal) : (((pick hi v).val : ℕ) : ℤ) = max 0 (min (hi : ℤ) (whole v)) := by
  unfold pick; simp only; omega

/-- The word of a number is its whole part. -/
theorem toInt_fptosi (v : EReal) : (FloatOps.fptosi (F := Ideal) (φ := .f32) 32 v).toInt = whole v := by
  show (BitVec.ofInt 32 (Ideal.toIntClamped (-((2 ^ (32 - 1) : ℕ) : ℤ)) (((2 ^ (32 - 1) : ℕ) : ℤ) - 1) v)).toInt = _
  have e : Ideal.toIntClamped (-((2 ^ (32 - 1) : ℕ) : ℤ)) (((2 ^ (32 - 1) : ℕ) : ℤ) - 1) v = whole v := by
    unfold whole; norm_num
  have h := whole_bounds v
  rw [e, BitVec.toInt_ofInt]
  exact Int.bmod_eq_of_le (by norm_num; omega) (by norm_num; omega)

/-- A small natural number's word, read signed. -/
theorem toInt_small (n : ℕ) (h : n < 2147483648) : (BitVec.ofNat 32 n).toInt = (n : ℤ) := by
  rw [BitVec.toInt_eq_toNat_of_lt (by rw [BitVec.toNat_ofNat]; omega), BitVec.toNat_ofNat]
  omega

/-- Clipping the word of a number gives the word of the index it picks. -/
theorem clip_word (hi : ℕ) (h : hi < 2147483648) (v : EReal) :
    IntOp.minsi (BitVec.ofNat 32 hi) (IntOp.maxsi 0#32 (FloatOps.fptosi (F := Ideal) (φ := .f32) 32 v))
      = BitVec.ofNat 32 (pick hi v).val := by
  have hp := pick_val hi v
  have hl := (pick hi v).isLt
  have hf := toInt_fptosi v
  have h0 : (0#32 : BitVec 32).toInt = 0 := by decide
  refine BitVec.eq_of_toInt_eq ?_
  rw [toInt_small _ (by omega)]
  unfold IntOp.minsi IntOp.maxsi
  simp only [BitVec.slt, hf, h0, decide_eq_true_eq]
  split
  · rw [h0, toInt_small _ h]; split
    · rw [toInt_small _ h]; omega
    · rw [h0]; omega
  · rw [hf, toInt_small _ h]; split
    · rw [toInt_small _ h]; omega
    · rw [hf]; omega

/-- Clipping the floor of a number gives the index it picks. -/
theorem clip_floor (hi : ℕ) (h : hi < 2147483648) (v : EReal) :
    min (((hi : ℝ)) : EReal) (max 0 (Ideal.liftRound Int.floor v)) = (((pick hi v).val : ℝ) : EReal) := by
  have hp := pick_val hi v
  unfold whole at hp
  have hh : ((hi : ℝ) : EReal) = (((hi : ℤ) : ℝ) : EReal) := by push_cast; rfl
  have hpr : (((pick hi v).val : ℝ) : EReal) = ((((pick hi v).val : ℤ) : ℝ) : EReal) := by push_cast; rfl
  rw [hpr, hp, hh]
  induction v with
  | bot =>
    rw [Ideal.toIntClamped_bot, Ideal.liftRound_bot, max_eq_left bot_le,
      min_eq_right (by exact_mod_cast Int.natCast_nonneg hi),
      show max 0 (min (hi : ℤ) (-2147483648)) = 0 by omega]
    simp
  | top =>
    rw [Ideal.toIntClamped_top, Ideal.liftRound_top, max_eq_right le_top, min_eq_left le_top,
      show max 0 (min (hi : ℤ) 2147483647) = (hi : ℤ) by omega]
  | coe r =>
    rw [Ideal.toIntClamped_coe, Ideal.liftRound_coe]
    have hz : max 0 (min (hi : ℤ) (max (-2147483648) (min 2147483647 (if 0 ≤ r then ⌊r⌋ else ⌈r⌉)))) = min (hi : ℤ) (max 0 ⌊r⌋) := by
      split
      · omega
      · next hr =>
        have h1 : ⌊r⌋ ≤ 0 := by
          have := Int.floor_le r
          have h2 : ((⌊r⌋ : ℤ) : ℝ) < 0 := lt_of_le_of_lt this (not_le.mp hr)
          have : ⌊r⌋ < 0 := by exact_mod_cast h2
          omega
        have h3 : ⌈r⌉ ≤ 0 := Int.ceil_le.mpr (by push_cast; exact (not_le.mp hr).le)
        omega
    rw [hz]
    rw [show (0 : EReal) = (((0 : ℤ) : ℝ) : EReal) by simp]
    have mono : Monotone (fun z : ℤ => ((z : ℝ) : EReal)) := fun a b hab => by
      show ((a : ℝ) : EReal) ≤ ((b : ℝ) : EReal)
      exact_mod_cast hab
    have e := mono.map_min (a := (hi : ℤ)) (b := max 0 ⌊r⌋)
    rw [mono.map_max] at e
    exact e.symm

/-- One index equals another as a number only where they are the same. -/
theorem coe_nat_eq_iff (a b : ℕ) : ((a : ℝ) : EReal) = ((b : ℝ) : EReal) ↔ a = b := by
  rw [EReal.coe_eq_coe_iff]; exact Nat.cast_inj

/-- A sum weighted by one index's indicator is the term at that index. -/
theorem sum_pick {n : ℕ} (i : Fin n) (f : Fin n → EReal) (w : Fin n → EReal) (hw : ∀ k, w k = if i.val = k.val then 1 else 0) :
    ∑ k, w k * f k = f i := by
  rw [Finset.sum_eq_single i]
  · rw [hw, if_pos rfl, one_mul]
  · intro k _ hk
    rw [hw, if_neg (fun e => hk (Fin.ext e.symm)), zero_mul]
  · intro h; exact absurd (Finset.mem_univ _) h

/-- A row of weights times rows of a matrix. -/
def dotRow {n : ℕ} (e : Fin n → EReal) (f : Fin n → Fin 256 → EReal) (j : Fin 256) : EReal := ∑ k, e k * f k j

/-- A sum over the table's 336 rows, by the table's parts. -/
theorem sum_336 (f : Fin 336 → EReal) : ∑ k, f k
    = (∑ k : Fin 256, f ⟨k.val, by omega⟩) + (∑ k : Fin 64, f ⟨256 + k.val, by omega⟩)
      + (f 320 + f 321 + f 322 + f 323 + f 324 + f 325) + ∑ k : Fin 10, f ⟨326 + k.val, by omega⟩ := by
  have a := Fin.sum_univ_add (a := 326) (b := 10) f
  have b := Fin.sum_univ_add (a := 320) (b := 6) (fun k => f (Fin.castAdd 10 k))
  have c := Fin.sum_univ_add (a := 256) (b := 64) (fun k => f (Fin.castAdd 10 (Fin.castAdd 6 k)))
  rw [a, b, c, Fin.sum_univ_six]
  rfl

/-- A sum over the 136 features, by the five they come from. -/
theorem sum_136 (f : Fin 136 → EReal) : ∑ k, f k
    = (∑ k : Fin 32, f ⟨k.val, by omega⟩) + (∑ k : Fin 32, f ⟨32 + k.val, by omega⟩) + (∑ k : Fin 8, f ⟨64 + k.val, by omega⟩)
      + (∑ k : Fin 32, f ⟨72 + k.val, by omega⟩) + ∑ k : Fin 32, f ⟨104 + k.val, by omega⟩ := by
  have a := Fin.sum_univ_add (a := 104) (b := 32) f
  have b := Fin.sum_univ_add (a := 72) (b := 32) (fun k => f (Fin.castAdd 32 k))
  have c := Fin.sum_univ_add (a := 64) (b := 8) (fun k => f (Fin.castAdd 32 (Fin.castAdd 32 k)))
  have d := Fin.sum_univ_add (a := 32) (b := 32) (fun k => f (Fin.castAdd 32 (Fin.castAdd 32 (Fin.castAdd 8 k))))
  rw [a, b, c, d]
  rfl

/-- A truth value as a number: one or zero. -/
theorem hot (a b : EReal) [Decidable (a = b)] :
    FloatOps.sitofp (F := Ideal) .f32 (BitVec.setWidth 32 (BitVec.ofBool (decide (a = b)))) = if a = b then (1 : EReal) else 0 := by
  by_cases h : a = b
  · rw [if_pos h, decide_eq_true h]
    show (((BitVec.setWidth 32 (BitVec.ofBool true)).toInt : ℝ) : EReal) = 1
    rw [show (BitVec.setWidth 32 (BitVec.ofBool true)).toInt = 1 by decide]
    simp
  · rw [if_neg h, decide_eq_false h]
    show (((BitVec.setWidth 32 (BitVec.ofBool false)).toInt : ℝ) : EReal) = 0
    rw [show (BitVec.setWidth 32 (BitVec.ofBool false)).toInt = 0 by decide]
    simp

end Cert.Own

end
-- ==== Proof.KernelIdeal.Rows.lean ====
/-
  The rows a block of tokens gets, over the extended reals: each is the normalised sum of the centred table rows that the
  token's features pick.
-/
module

public import proofs.«01_k».proof.Proof.KernelIdeal.Values
public import proofs.«01_k».proof.Proof.Math.Token
public import proofs.«01_k».proof.Proof.Math.Index
public import Idealize.ShloMosaic.Lib.Pointwise

@[expose] public section

set_option maxRecDepth 16384

noncomputable section

namespace Cert.KernelIdeal.Own

open Idealize.ShloMosaic
open Cert.KernelIdeal Cert.KernelIdeal.Gen Cert.Own

/-! ## The tokens' weights -/

section Weights
variable (p : FVec Ideal S1x256 .bf16) (f : FVec Ideal S1x64 .bf16) (x : FVec Ideal S8x2048 .f32) (r : Fin 2048)

theorem codes_0 : codes (F := Ideal) x (ix2 r (0 : Fin 8)) = (((pick 255 (x (ix2 (0 : Fin 8) r))).val : ℝ) : EReal) := by
  rw [← clip_floor 255 (by omega), show (((255 : ℕ) : ℝ) : EReal) = ((255 : ℝ) : EReal) by norm_num, ← bits_255]
  pointwise [codes, clipped, coarse, fine, feat]

theorem codes_1 : codes (F := Ideal) x (ix2 r (1 : Fin 8)) = (((pick 63 (x (ix2 (4 : Fin 8) r))).val : ℝ) : EReal) := by
  rw [← clip_floor 63 (by omega), show (((63 : ℕ) : ℝ) : EReal) = ((63 : ℝ) : EReal) by norm_num, ← bits_63]
  pointwise [codes, clipped, coarse, fine, feat]

theorem codes_2 : codes (F := Ideal) x (ix2 r (2 : Fin 8)) = 1 := by
  pointwise [codes, clipped, coarse, fine, feat]

theorem codes_3 : codes (F := Ideal) x (ix2 r (3 : Fin 8)) = (((pick 1 (x (ix2 (3 : Fin 8) r))).val : ℝ) : EReal) := by
  rw [← clip_floor 1 (by omega), show (((1 : ℕ) : ℝ) : EReal) = 1 by norm_num]
  pointwise [codes, clipped, coarse, fine, feat]

theorem codes_4 : codes (F := Ideal) x (ix2 r (4 : Fin 8)) = x (ix2 (1 : Fin 8) r) := by
  pointwise [codes, clipped, coarse, fine, feat]

theorem codes_5 : codes (F := Ideal) x (ix2 r (5 : Fin 8)) = x (ix2 (1 : Fin 8) r) - x (ix2 (1 : Fin 8) r) := by
  pointwise [codes, clipped, coarse, fine, feat]

theorem codes_6 : codes (F := Ideal) x (ix2 r (6 : Fin 8)) = x (ix2 (2 : Fin 8) r) := by
  pointwise [codes, clipped, coarse, fine, feat]

theorem codes_7 : codes (F := Ideal) x (ix2 r (7 : Fin 8)) = x (ix2 (2 : Fin 8) r) - x (ix2 (2 : Fin 8) r) := by
  pointwise [codes, clipped, coarse, fine, feat]

/-- The first 256 weights are one at the index the first feature picks and zero elsewhere. -/
theorem weights_proto (hp : ∀ k : Fin 256, p (ix2 (0 : Fin 1) k) = ((k.val : ℝ) : EReal)) (k : Fin 256) :
    weights (F := Ideal) p f x (ix2 r (⟨k.val, by omega⟩ : Fin 336))
      = if (pick 255 (x (ix2 (0 : Fin 8) r))).val = k.val then 1 else 0 := by
  have e : weights (F := Ideal) p f x (ix2 r (⟨k.val, by omega⟩ : Fin 336)) = protoHot p (codes x) (ix2 r k) := by
    pointwise [weights]
  rw [e]
  pointwise [protoHot]
  rw [hot, codes_0, hp]
  simp only [coe_nat_eq_iff]

/-- The next 64 weights are one at the index the fifth feature picks and zero elsewhere. -/
theorem weights_flags (hf : ∀ k : Fin 64, f (ix2 (0 : Fin 1) k) = ((k.val : ℝ) : EReal)) (k : Fin 64) :
    weights (F := Ideal) p f x (ix2 r (⟨256 + k.val, by omega⟩ : Fin 336))
      = if (pick 63 (x (ix2 (4 : Fin 8) r))).val = k.val then 1 else 0 := by
  have e : weights (F := Ideal) p f x (ix2 r (⟨256 + k.val, by omega⟩ : Fin 336)) = flagHot f (codes x) (ix2 r k) := by
    pointwise [weights]
  rw [e]
  pointwise [flagHot]
  rw [hot, codes_1, hf]
  simp only [coe_nat_eq_iff]

theorem weights_320 : weights (F := Ideal) p f x (ix2 r (320 : Fin 336)) = 1 := by
  refine Eq.trans ?_ (codes_2 x r); pointwise [weights]

theorem weights_321 : weights (F := Ideal) p f x (ix2 r (321 : Fin 336)) = (((pick 1 (x (ix2 (3 : Fin 8) r))).val : ℝ) : EReal) := by
  refine Eq.trans ?_ (codes_3 x r); pointwise [weights]

theorem weights_322 : weights (F := Ideal) p f x (ix2 r (322 : Fin 336)) = x (ix2 (1 : Fin 8) r) := by
  refine Eq.trans ?_ (codes_4 x r); pointwise [weights]

theorem weights_323 : weights (F := Ideal) p f x (ix2 r (323 : Fin 336)) = x (ix2 (1 : Fin 8) r) - x (ix2 (1 : Fin 8) r) := by
  refine Eq.trans ?_ (codes_5 x r); pointwise [weights]

theorem weights_324 : weights (F := Ideal) p f x (ix2 r (324 : Fin 336)) = x (ix2 (2 : Fin 8) r) := by
  refine Eq.trans ?_ (codes_6 x r); pointwise [weights]

theorem weights_325 : weights (F := Ideal) p f x (ix2 r (325 : Fin 336)) = x (ix2 (2 : Fin 8) r) - x (ix2 (2 : Fin 8) r) := by
  refine Eq.trans ?_ (codes_7 x r); pointwise [weights]

/-- The last ten weights are zero. -/
theorem weights_rest (k : Fin 10) : weights (F := Ideal) p f x (ix2 r (⟨326 + k.val, by omega⟩ : Fin 336)) = 0 := by
  pointwise [weights]
  rw [dif_neg (by omega), dif_neg (by omega), dif_neg (by omega)]

end Weights

/-! ## The table's rows -/

section Table
variable (ep : FVec Ideal S256x32 .f32) (ef : FVec Ideal S64x32 .f32) (ed : FVec Ideal S8x8 .f32) (ul ui : FVec Ideal S8x32 .f32)
  (wf : FVec Ideal S136x256 .f32) (bf : FVec Ideal S1x256 .f32)

/-- Row `n` of the first embedding through the first 32 rows of the matrix. -/
def protoRow (n : Fin 256) : Fin 256 → EReal :=
  dotRow (fun k : Fin 32 => ep (ix2 n k)) (fun k j => wf (ix2 (⟨k.val, by omega⟩ : Fin 136) j))
/-- Row `n` of the second embedding through the next 32 rows of the matrix. -/
def flagRow (n : Fin 64) : Fin 256 → EReal :=
  dotRow (fun k : Fin 32 => ef (ix2 n k)) (fun k j => wf (ix2 (⟨32 + k.val, by omega⟩ : Fin 136) j))
/-- Row `n` of the third embedding through the next 8 rows of the matrix. -/
def dirRow (n : Fin 8) : Fin 256 → EReal :=
  dotRow (fun k : Fin 8 => ed (ix2 n k)) (fun k j => wf (ix2 (⟨64 + k.val, by omega⟩ : Fin 136) j))
/-- Row `n` of the second feature's two through the next 32 rows of the matrix. -/
def lenRow (n : Fin 8) : Fin 256 → EReal :=
  dotRow (fun k : Fin 32 => ul (ix2 n k)) (fun k j => wf (ix2 (⟨72 + k.val, by omega⟩ : Fin 136) j))
/-- Row `n` of the third feature's two through the last 32 rows of the matrix. -/
def iatRow (n : Fin 8) : Fin 256 → EReal :=
  dotRow (fun k : Fin 32 => ui (ix2 n k)) (fun k j => wf (ix2 (⟨104 + k.val, by omega⟩ : Fin 136) j))

theorem table_proto (n j : Fin 256) :
    tableOf (F := Ideal) ep ef ed ul ui wf bf (ix2 (⟨n.val, by omega⟩ : Fin 336) j) = cen (protoRow ep wf n) j := by
  have e : tableOf (F := Ideal) ep ef ed ul ui wf bf (ix2 (⟨n.val, by omega⟩ : Fin 336) j) = k0_pay3 wf ep (ix2 n j) := by
    rw [ix2_eq_valueIdx, ix2_eq_valueIdx]
    exact dif_pos (show n.val < 256 from n.isLt)
  rw [e]; unfold cen protoRow dotRow; rw [← bits_256]
  pointwise [k0_pay3]

theorem table_flag (n : Fin 64) (j : Fin 256) :
    tableOf (F := Ideal) ep ef ed ul ui wf bf (ix2 (⟨256 + n.val, by omega⟩ : Fin 336) j) = cen (flagRow ef wf n) j := by
  have e : tableOf (F := Ideal) ep ef ed ul ui wf bf (ix2 (⟨256 + n.val, by omega⟩ : Fin 336) j) = k0_pay4 wf ef (ix2 n j) := by
    rw [ix2_eq_valueIdx, ix2_eq_valueIdx]
    refine (dif_neg (show ¬(256 + n.val < 256) by omega)).trans ((dif_pos (show 256 + n.val < 320 by omega)).trans ?_)
    exact congrArg (fun q : Fin 64 => k0_pay4 (F := Ideal) wf ef (ValueIdx.ix2 q j)) (Fin.ext (show 256 + n.val - 256 = n.val by omega))
  rw [e]; unfold cen flagRow dotRow; rw [← bits_256]
  pointwise [k0_pay4]

theorem table_320 (j : Fin 256) : tableOf (F := Ideal) ep ef ed ul ui wf bf (ix2 (320 : Fin 336) j)
    = cen (baseRow (dirRow ed wf 0) (fun i => bf (ix2 (0 : Fin 1) i)) (lenRow ul wf 1) (iatRow ui wf 1)) j := by
  have e : tableOf (F := Ideal) ep ef ed ul ui wf bf (ix2 (320 : Fin 336) j)
      = k0_pay8 wf (k0_pay5 wf ed) (k0_pay6 wf ul) ui bf (ix2 (0 : Fin 1) j) := by rw [ix2_eq_valueIdx, ix2_eq_valueIdx]; rfl
  rw [e]; unfold cen baseRow dirRow lenRow iatRow dotRow; rw [← bits_256]
  pointwise [k0_pay8, k0_pay7, k0_pay5, k0_pay6]

theorem table_321 (j : Fin 256) : tableOf (F := Ideal) ep ef ed ul ui wf bf (ix2 (321 : Fin 336) j)
    = cen (fun i => dirRow ed wf 1 i - dirRow ed wf 0 i) j := by
  have e : tableOf (F := Ideal) ep ef ed ul ui wf bf (ix2 (321 : Fin 336) j)
      = k0_pay9 (k0_pay5 wf ed) (ix2 (0 : Fin 1) j) := by rw [ix2_eq_valueIdx, ix2_eq_valueIdx]; rfl
  rw [e]; unfold cen dirRow dotRow; rw [← bits_256]
  pointwise [k0_pay9, k0_pay5]

theorem table_322 (j : Fin 256) : tableOf (F := Ideal) ep ef ed ul ui wf bf (ix2 (322 : Fin 336) j) = cen (lenRow ul wf 0) j := by
  have e : tableOf (F := Ideal) ep ef ed ul ui wf bf (ix2 (322 : Fin 336) j)
      = k0_pay13 (k0_pay10 (k0_pay6 wf ul)) (ix2 (0 : Fin 1) j) := by rw [ix2_eq_valueIdx, ix2_eq_valueIdx]; rfl
  rw [e]; unfold cen lenRow dotRow; rw [← bits_256]
  pointwise [k0_pay13, k0_pay10, k0_pay6]

theorem table_323 (j : Fin 256) : tableOf (F := Ideal) ep ef ed ul ui wf bf (ix2 (323 : Fin 336) j) = cen (lenRow ul wf 0) j := by
  have e : tableOf (F := Ideal) ep ef ed ul ui wf bf (ix2 (323 : Fin 336) j)
      = k0_pay14 (k0_pay10 (k0_pay6 wf ul)) (ix2 (0 : Fin 1) j) := by rw [ix2_eq_valueIdx, ix2_eq_valueIdx]; rfl
  rw [e]; unfold cen lenRow dotRow; rw [← bits_256]
  pointwise [k0_pay14, k0_pay10, k0_pay6]

theorem table_324 (j : Fin 256) : tableOf (F := Ideal) ep ef ed ul ui wf bf (ix2 (324 : Fin 336) j) = cen (iatRow ui wf 0) j := by
  have e : tableOf (F := Ideal) ep ef ed ul ui wf bf (ix2 (324 : Fin 336) j)
      = k0_pay15 (k0_pay11 wf ui) (ix2 (0 : Fin 1) j) := by rw [ix2_eq_valueIdx, ix2_eq_valueIdx]; rfl
  rw [e]; unfold cen iatRow dotRow; rw [← bits_256]
  pointwise [k0_pay15, k0_pay12, k0_pay11, k0_pay7]

theorem table_325 (j : Fin 256) : tableOf (F := Ideal) ep ef ed ul ui wf bf (ix2 (325 : Fin 336) j) = cen (iatRow ui wf 0) j := by
  have e : tableOf (F := Ideal) ep ef ed ul ui wf bf (ix2 (325 : Fin 336) j)
      = k0_pay16 (k0_pay11 wf ui) (ix2 (0 : Fin 1) j) := by rw [ix2_eq_valueIdx, ix2_eq_valueIdx]; rfl
  rw [e]; unfold cen iatRow dotRow; rw [← bits_256]
  pointwise [k0_pay16, k0_pay12, k0_pay11, k0_pay7]

end Table

/-! ## The block's rows -/

section Rows
variable (ep : FVec Ideal S256x32 .f32) (ef : FVec Ideal S64x32 .f32) (ed : FVec Ideal S8x8 .f32) (ul ui : FVec Ideal S8x32 .f32)
  (wf : FVec Ideal S136x256 .f32) (bf : FVec Ideal S1x256 .f32)
  (p : FVec Ideal S1x256 .bf16) (f : FVec Ideal S1x64 .bf16) (x : FVec Ideal S8x2048 .f32) (r : Fin 2048)

/-- A token's row, from its five features: the table rows they pick, summed. -/
def tokRow (v0 v1 v2 v3 v4 : EReal) : Fin 256 → EReal :=
  tableTok (protoRow ep wf (pick 255 v0)) (flagRow ef wf (pick 63 v4)) (dirRow ed wf 0) (dirRow ed wf 1)
    (lenRow ul wf 0) (lenRow ul wf 1) (iatRow ui wf 0) (iatRow ui wf 1) (fun i => bf (ix2 (0 : Fin 1) i))
    (((pick 1 v3).val : ℝ) : EReal) v1 v2

theorem centred_value (hp : ∀ k : Fin 256, p (ix2 (0 : Fin 1) k) = ((k.val : ℝ) : EReal))
    (hf : ∀ k : Fin 64, f (ix2 (0 : Fin 1) k) = ((k.val : ℝ) : EReal)) (j : Fin 256) :
    centredOf (F := Ideal) (tableOf ep ef ed ul ui wf bf) p f x (ix2 r j)
      = tokRow ep ef ed ul ui wf bf (x (ix2 (0 : Fin 8) r)) (x (ix2 (1 : Fin 8) r)) (x (ix2 (2 : Fin 8) r)) (x (ix2 (3 : Fin 8) r))
          (x (ix2 (4 : Fin 8) r)) j := by
  pointwise [centredOf]
  rw [sum_336, weights_320, weights_321, weights_322, weights_323, weights_324, weights_325,
    table_320, table_321, table_322, table_323, table_324, table_325]
  rw [sum_pick (pick 255 (x (ix2 (0 : Fin 8) r)))
      (fun k => tableOf (F := Ideal) ep ef ed ul ui wf bf (ix2 (⟨k.val, by omega⟩ : Fin 336) j)) _ (weights_proto p f x r hp),
    sum_pick (pick 63 (x (ix2 (4 : Fin 8) r)))
      (fun k => tableOf (F := Ideal) ep ef ed ul ui wf bf (ix2 (⟨256 + k.val, by omega⟩ : Fin 336) j)) _ (weights_flags p f x r hf)]
  simp only [weights_rest, zero_mul, Finset.sum_const_zero, one_mul]
  rw [table_proto, table_flag]
  unfold tokRow tableTok
  simp only [add_assoc, add_zero]

/-- A token's row of the block is the normalised sum of the table rows its features pick. -/
theorem rows_value (g b : FVec Ideal S1x256 .f32) (hp : ∀ k : Fin 256, p (ix2 (0 : Fin 1) k) = ((k.val : ℝ) : EReal))
    (hf : ∀ k : Fin 64, f (ix2 (0 : Fin 1) k) = ((k.val : ℝ) : EReal)) (j : Fin 256) :
    rowsOf (F := Ideal) (tableOf ep ef ed ul ui wf bf) g b p f x (ix2 r j)
      = normC (tokRow ep ef ed ul ui wf bf (x (ix2 (0 : Fin 8) r)) (x (ix2 (1 : Fin 8) r)) (x (ix2 (2 : Fin 8) r))
          (x (ix2 (3 : Fin 8) r)) (x (ix2 (4 : Fin 8) r))) (fun i => g (ix2 (0 : Fin 1) i)) (fun i => b (ix2 (0 : Fin 1) i)) j := by
  have ep' : shapeCast S1x256 p shapeCasts_S1x256_S1x256 = p := shapeCast_self _ _
  have ef' : shapeCast S1x64 f shapeCasts_S1x64_S1x64 = f := shapeCast_self _ _
  unfold rowsOf normC
  rw [ep', ef', ← bits_256]
  simp only [← centred_value ep ef ed ul ui wf bf p f x r hp hf]
  pointwise [affineOf, scaleOf]

end Rows

end Cert.KernelIdeal.Own

end
-- ==== Proof.Math.Spec.lean ====
/-
  A token's row from the arguments' entries, twice: as the table of the kernel makes it and as the five features' rows
  through the matrix. For real values where the two orders of the sum differ, the normalised rows are equal.
-/
module

public import proofs.«01_k».proof.Proof.Math.Token
public import proofs.«01_k».proof.Proof.Math.Index

@[expose] public section

noncomputable section

namespace Cert.Own

open Idealize.ShloMosaic

section Spec
variable (ep : Fin 256 → Fin 32 → EReal) (ef : Fin 64 → Fin 32 → EReal) (ed : Fin 2 → Fin 8 → EReal)
  (wl bl wi bi : Fin 32 → EReal) (wf : Fin 136 → Fin 256 → EReal) (bf : Fin 256 → EReal) (v : Fin 5 → EReal)

/-- 32 rows of the matrix from row `o` on. -/
def rows32 (o : ℕ) (h : o + 32 ≤ 136) (k : Fin 32) (j : Fin 256) : EReal := wf ⟨o + k.val, by omega⟩ j
/-- The eight rows of the matrix that the third embedding goes through. -/
def rows8 (k : Fin 8) (j : Fin 256) : EReal := wf ⟨64 + k.val, by omega⟩ j

/-- The sum of the table's rows (not yet centred) for the features `v`. -/
def tableRow : Fin 256 → EReal :=
  tableTok (dotRow (ep (pick 255 (v 0))) (rows32 wf 0 (by omega))) (dotRow (ef (pick 63 (v 4))) (rows32 wf 32 (by omega)))
    (dotRow (ed 0) (rows8 wf)) (dotRow (ed 1) (rows8 wf))
    (dotRow wl (rows32 wf 72 (by omega))) (dotRow bl (rows32 wf 72 (by omega)))
    (dotRow wi (rows32 wf 104 (by omega))) (dotRow bi (rows32 wf 104 (by omega))) bf
    (((pick 1 (v 3)).val : ℝ) : EReal) (v 1) (v 2)

/-- The five features' rows through the matrix, summed, and the bias, for the features `v`. -/
def featRow : Fin 256 → EReal :=
  featTok (dotRow (ep (pick 255 (v 0))) (rows32 wf 0 (by omega))) (dotRow (ef (pick 63 (v 4))) (rows32 wf 32 (by omega)))
    (dotRow (ed (pick 1 (v 3))) (rows8 wf))
    (dotRow (fun k => v 1 * wl k + bl k) (rows32 wf 72 (by omega)))
    (dotRow (fun k => v 2 * wi k + bi k) (rows32 wf 104 (by omega))) bf

/-- With real lengths, gaps, first direction row and matrix rows from 64 on, the normalised rows are equal. -/
theorem rows_agree (γ β : Fin 256 → EReal) (h1 : Fin' (v 1)) (h2 : Fin' (v 2)) (hd : ∀ k, Fin' (ed 0 k))
    (hw : ∀ k : Fin 136, 64 ≤ k.val → ∀ j, Fin' (wf k j)) (j : Fin 256) :
    normC (tableRow ep ef ed wl bl wi bi wf bf v) γ β j = normH (featRow ep ef ed wl bl wi bi wf bf v) γ β j := by
  obtain ⟨x, hx⟩ := h1
  obtain ⟨y, hy⟩ := h2
  unfold tableRow featRow
  rw [hx, hy]
  refine token _ _ _ _ _ _ _ _ _ _ _ _ _ x y ((pick 1 (v 3)).val : ℝ) ?_ _ ?_ ?_ ?_ ?_ j
  · have := (pick 1 (v 3)).isLt
    rcases (show (pick 1 (v 3)).val = 0 ∨ (pick 1 (v 3)).val = 1 by omega) with h | h <;> simp [h]
  · have := (pick 1 (v 3)).isLt
    rcases (show (pick 1 (v 3)).val = 0 ∨ (pick 1 (v 3)).val = 1 by omega) with h | h
    · rw [show pick 1 (v 3) = 0 from Fin.ext h]; simp
    · rw [show pick 1 (v 3) = 1 from Fin.ext h]; simp
  · intro i
    choose a ha using hd
    choose b hb using fun k : Fin 8 => hw ⟨64 + k.val, by omega⟩ (by simp) i
    refine ⟨∑ k, a k * b k, ?_⟩
    unfold dotRow rows8
    refine Eq.trans (Finset.sum_congr rfl fun k _ => ?_) (coe_sum _ _).symm
    rw [ha, hb, EReal.coe_mul]
  · exact agree_dot x wl bl _ fun k i => hw _ (by simp; omega) i
  · exact agree_dot y wi bi _ fun k i => hw _ (by simp; omega) i

end Spec

end Cert.Own

end
-- ==== Proof.KernelIdeal.Output.lean ====
/-
  What the program returns, over the extended reals: each token's row is the normalised sum of the centred table rows that
  the token's features pick, entry by entry from the arguments.
-/
module

public import proofs.«01_k».proof.Proof.KernelIdeal.Arrays
public import proofs.«01_k».proof.Proof.KernelIdeal.Rows
public import proofs.«01_k».proof.Proof.Math.Spec
public import Idealize.ShloMosaic.Lib.Pipeline.ValueKit.Tiles

@[expose] public section

set_option maxRecDepth 16384

noncomputable section

namespace Cert.KernelIdeal.Own

open Idealize.ShloMosaic Idealize.ShloMosaic.TcCoe
open Cert.KernelIdeal Cert.KernelIdeal.Gen Cert.Own

/-! ## One block -/

/-- A token of the window, read in the part of 2048 it lies in. -/
theorem tokens_apply (o : ℕ) (h : S8x16384.Slices ![0, o] S8x2048) (x : FVec Ideal S8x16384 .f32) (k : Fin 8) (r : Fin 2048)
    (hr : o + r.val < 16384) : tokens (F := Ideal) o h x (ix2 k r) = x (ix2 k (⟨o + r.val, hr⟩ : Fin 16384)) := by
  unfold tokens
  have e : shapeCast S8x16384 x shapeCasts_S8x16384_S8x16384 = x := shapeCast_self _ _
  rw [e]
  refine congrArg x (funext fun a => Fin.ext ?_)
  match a with
  | ⟨0, _⟩ => exact Nat.zero_add _
  | ⟨1, _⟩ => rfl

section Block
variable (ep : FVec Ideal S256x32 .f32) (ef : FVec Ideal S64x32 .f32) (ed : FVec Ideal S8x8 .f32) (ul ui : FVec Ideal S8x32 .f32)
  (wf : FVec Ideal S136x256 .f32) (bf : FVec Ideal S1x256 .f32)
  (p : FVec Ideal S1x256 .bf16) (f : FVec Ideal S1x64 .bf16) (x : FVec Ideal S8x16384 .f32) (g b : FVec Ideal S1x256 .f32)

omit p f x g b in
/-- The table's rows depend only on the blocks' entries. -/
theorem tokRow_eq {ep' : Fin 256 → Fin 32 → EReal} {ef' : Fin 64 → Fin 32 → EReal} {ed' : Fin 2 → Fin 8 → EReal}
    {wl bl wi bi : Fin 32 → EReal} {wf' : Fin 136 → Fin 256 → EReal} {bf' : Fin 256 → EReal}
    (h1 : ∀ n k, ep (ix2 n k) = ep' n k) (h2 : ∀ n k, ef (ix2 n k) = ef' n k)
    (h3 : ∀ (n : Fin 2) k, ed (ix2 (⟨n.val, by omega⟩ : Fin 8) k) = ed' n k)
    (h40 : ∀ k, ul (ix2 (0 : Fin 8) k) = wl k) (h41 : ∀ k, ul (ix2 (1 : Fin 8) k) = bl k)
    (h50 : ∀ k, ui (ix2 (0 : Fin 8) k) = wi k) (h51 : ∀ k, ui (ix2 (1 : Fin 8) k) = bi k)
    (h6 : ∀ k j, wf (ix2 k j) = wf' k j) (h7 : ∀ j, bf (ix2 (0 : Fin 1) j) = bf' j) (v : Fin 5 → EReal) :
    tokRow ep ef ed ul ui wf bf (v 0) (v 1) (v 2) (v 3) (v 4) = tableRow ep' ef' ed' wl bl wi bi wf' bf' v := by
  obtain rfl : (fun n k => ep (ix2 n k)) = ep' := funext fun n => funext (h1 n)
  obtain rfl : (fun n k => ef (ix2 n k)) = ef' := funext fun n => funext (h2 n)
  obtain rfl : (fun (n : Fin 2) k => ed (ix2 (⟨n.val, by omega⟩ : Fin 8) k)) = ed' := funext fun n => funext (h3 n)
  obtain rfl : (fun k => ul (ix2 (0 : Fin 8) k)) = wl := funext h40
  obtain rfl : (fun k => ul (ix2 (1 : Fin 8) k)) = bl := funext h41
  obtain rfl : (fun k => ui (ix2 (0 : Fin 8) k)) = wi := funext h50
  obtain rfl : (fun k => ui (ix2 (1 : Fin 8) k)) = bi := funext h51
  obtain rfl : (fun k j => wf (ix2 k j)) = wf' := funext fun k => funext (h6 k)
  obtain rfl : (fun j => bf (ix2 (0 : Fin 1) j)) = bf' := funext h7
  have e : protoRow ep wf (pick 255 (v 0)) = dotRow (fun k => ep (ix2 (pick 255 (v 0)) k)) (rows32 (fun k j => wf (ix2 k j)) 0 (by omega)) := by
    funext j
    unfold protoRow dotRow rows32
    refine Finset.sum_congr rfl fun k _ => ?_
    exact congrArg (fun q : Fin 136 => ep (ix2 (pick 255 (v 0)) k) * wf (ix2 q j))
      (show (⟨k.val, by omega⟩ : Fin 136) = ⟨0 + k.val, by omega⟩ from Fin.ext (Nat.zero_add _).symm)
  unfold tokRow tableRow
  rw [e]
  rfl

/-- The row of token `r` of the block. -/
def blockRow (r : Fin 16384) (j : Fin 256) : EReal :=
  normC (tokRow ep ef ed ul ui wf bf (x (ix2 (0 : Fin 8) r)) (x (ix2 (1 : Fin 8) r)) (x (ix2 (2 : Fin 8) r))
    (x (ix2 (3 : Fin 8) r)) (x (ix2 (4 : Fin 8) r))) (fun i => g (ix2 (0 : Fin 1) i)) (fun i => b (ix2 (0 : Fin 1) i)) j

theorem part_value (hp : ∀ k : Fin 256, p (ix2 (0 : Fin 1) k) = ((k.val : ℝ) : EReal))
    (hf : ∀ k : Fin 64, f (ix2 (0 : Fin 1) k) = ((k.val : ℝ) : EReal)) (o : ℕ) (h : S8x16384.Slices ![0, o] S8x2048)
    (y : S16384x256.Idx) (q : S2048x256.Idx) (h0 : (y 0).val = o + (q 0).val) (h1 : (y 1).val = (q 1).val) :
    rowsOf (F := Ideal) (tableOf ep ef ed ul ui wf bf) g b p f (tokens o h x) q
      = blockRow ep ef ed ul ui wf bf x g b (y 0) (y 1) := by
  have hr : o + (q 0).val < 16384 := h0 ▸ (y 0).isLt
  have e0 : y 0 = (⟨o + (q 0).val, hr⟩ : Fin 16384) := Fin.ext h0
  have e1 : y 1 = (q 1 : Fin 256) := Fin.ext h1
  have eq : q = ix2 (q 0 : Fin 2048) (q 1 : Fin 256) := by
    funext a
    match a with
    | ⟨0, _⟩ => rfl
    | ⟨1, _⟩ => rfl
  refine (congrArg (rowsOf (F := Ideal) (tableOf ep ef ed ul ui wf bf) g b p f (tokens o h x)) eq).trans
    ((rows_value ep ef ed ul ui wf bf p f _ (q 0) g b hp hf (q 1)).trans ?_)
  unfold blockRow
  rw [tokens_apply o h x 0 (q 0) hr, tokens_apply o h x 1 (q 0) hr, tokens_apply o h x 2 (q 0) hr, tokens_apply o h x 3 (q 0) hr,
    tokens_apply o h x 4 (q 0) hr, e0, e1]

theorem block_value (hp : ∀ k : Fin 256, p (ix2 (0 : Fin 1) k) = ((k.val : ℝ) : EReal))
    (hf : ∀ k : Fin 64, f (ix2 (0 : Fin 1) k) = ((k.val : ℝ) : EReal)) (y : S16384x256.Idx) :
    blockOf (F := Ideal) x (tableOf ep ef ed ul ui wf bf) g b p f y = blockRow ep ef ed ul ui wf bf x g b (y 0) (y 1) := by
  unfold blockOf blockPieces
  canon_tiles q h <;> exact part_value ep ef ed ul ui wf bf p f x g b hp hf _ _ y q (by omega) (by omega)

end Block

/-! ## The blocks of the arguments -/

section Args
variable (m : (ℓ : Loc nD τ sig) → Buf (Elt Ideal) ℓ) (c : Dev nD)

/-- Token `(s, t)`'s row from the arguments' entries, as the table makes it. -/
def rowAt (s : Fin 4096) (t : Fin 200) : Fin 256 → EReal :=
  tableRow (fun n k => m ((c : Thread nD τ).loc main_arg1) (ix2 n k)) (fun n k => m ((c : Thread nD τ).loc main_arg2) (ix2 n k))
    (fun n k => m ((c : Thread nD τ).loc main_arg3) (ix2 n k)) (fun k => m ((c : Thread nD τ).loc main_arg4) (ix2 (0 : Fin 1) k))
    (fun k => m ((c : Thread nD τ).loc main_arg5) (ix1 k)) (fun k => m ((c : Thread nD τ).loc main_arg6) (ix2 (0 : Fin 1) k))
    (fun k => m ((c : Thread nD τ).loc main_arg7) (ix1 k)) (fun k j => m ((c : Thread nD τ).loc main_arg8) (ix2 k j))
    (fun j => m ((c : Thread nD τ).loc main_arg9) (ix1 j)) (fun k => m ((c : Thread nD τ).loc main_arg0) (ix3 s t k))

/-- Entry `j` of token `(s, t)`'s row of the result. -/
def outAt (s : Fin 4096) (t : Fin 200) (j : Fin 256) : EReal :=
  normC (rowAt m c s t) (fun i => m ((c : Thread nD τ).loc main_arg10) (ix1 i)) (fun i => m ((c : Thread nD τ).loc main_arg11) (ix1 i)) j

theorem tokRow_args (v : Fin 5 → EReal) :
    tokRow (iblk m c 1 t0) (iblk m c 2 t0) (iblk m c 3 t0) (iblk m c 4 t0) (iblk m c 5 t0) (iblk m c 6 t0) (iblk m c 7 t0)
        (v 0) (v 1) (v 2) (v 3) (v 4)
      = tableRow (fun n k => m ((c : Thread nD τ).loc main_arg1) (ix2 n k)) (fun n k => m ((c : Thread nD τ).loc main_arg2) (ix2 n k))
        (fun n k => m ((c : Thread nD τ).loc main_arg3) (ix2 n k)) (fun k => m ((c : Thread nD τ).loc main_arg4) (ix2 (0 : Fin 1) k))
        (fun k => m ((c : Thread nD τ).loc main_arg5) (ix1 k)) (fun k => m ((c : Thread nD τ).loc main_arg6) (ix2 (0 : Fin 1) k))
        (fun k => m ((c : Thread nD τ).loc main_arg7) (ix1 k)) (fun k j => m ((c : Thread nD τ).loc main_arg8) (ix2 k j))
        (fun j => m ((c : Thread nD τ).loc main_arg9) (ix1 j)) v :=
  tokRow_eq _ _ _ _ _ _ _ (block_1 m c t0) (block_2 m c t0) (fun n k => (block_3 m c t0 _ k).trans (V_dir m c n k))
    (fun k => (block_4 m c t0 _ k).trans (V_len_0 m c k)) (fun k => (block_4 m c t0 _ k).trans (V_len_1 m c k))
    (fun k => (block_5 m c t0 _ k).trans (V_iat_0 m c k)) (fun k => (block_5 m c t0 _ k).trans (V_iat_1 m c k))
    (block_6 m c t0) (fun k => (block_7 m c t0 k).trans (V_bias m c k)) v

/-- Point `t`'s block holds the rows of its 16384 tokens. -/
theorem theBlock_value (t : Fin cfg0.N) (y : S16384x256.Idx) (s : Fin 4096) (u : Fin 200)
    (h : t.val * 16384 + (y 0).val = s.val * 200 + u.val) : theBlock m c t y = outAt m c s u (y 1) := by
  have hn : s.val * 200 + u.val < 819200 := by omega
  have hx : ∀ k : Fin 5, iblk m c 0 t (ix2 (⟨k.val, by omega⟩ : Fin 8) (y 0 : Fin 16384)) = m ((c : Thread nD τ).loc main_arg0) (ix3 s u k) := fun k => by
    rw [block_0 m c t _ (y 0) (by omega), ← V_features m c k s u hn]
    exact congrArg (fun q : Fin 819200 => V m c main_v2 (ix2 (⟨k.val, by omega⟩ : Fin 8) q)) (Fin.ext h)
  unfold theBlock theTable
  rw [block_value _ _ _ _ _ _ _ _ _ _ _ _ (fun k => (block_10 m c t k).trans (V_labels m c k)) (fun k => (block_11 m c t k).trans (V_labels' m c k))]
  unfold blockRow outAt rowAt
  rw [← tokRow_args, ← hx 0, ← hx 1, ← hx 2, ← hx 3, ← hx 4]
  congr 1
  · funext i; rw [block_8, V_gamma]
  · funext i; rw [block_9, V_beta]

/-- The output's array after the launch. -/
theorem arr_value (s : Fin 4096) (u : Fin 200) (j : Fin 256) (hn : s.val * 200 + u.val < 819200) :
    (dats m 0 c).arrAt 12 cfg0.N (ix2 (⟨s.val * 200 + u.val, hn⟩ : Fin 819200) j) = outAt m c s u j := by
  suffices H : ∀ i : S819200x256.Idx, ∀ (s : Fin 4096) (u : Fin 200), (i 0).val = s.val * 200 + u.val →
      (dats m 0 c).arrAt 12 cfg0.N i = outAt m c s u (i 1) from H _ s u rfl
  intro i
  refine (dats m 0 c).arrAt_forall_of_covers 12
    (fun i v => ∀ (s : Fin 4096) (u : Fin 200), (i 0).val = s.val * 200 + u.val → v = outAt m c s u (i 1)) (by decide +kernel)
    (fun t hf y => ?_) i
  blk_simp
  rw [after_12]
  intro s u h
  have hi := (idx t).2.2.2.2.2.2.2.2.2.2.2.2
  have h0 : win0_12.index t 0 = t.val := congrFun hi 0
  have h1 : win0_12.index t 1 = 0 := congrFun hi 1
  rw [h0] at h
  refine (theBlock_value m c t y s u h).trans (congrArg (outAt m c s u) (Fin.ext ?_))
  blk_simp
  rw [h1]
  exact (Nat.zero_add _).symm

/-- The result: the output's array with its rows split in two again. -/
theorem run_value (ρ : Dev nD → PrngReg) :
    θ_run defs (onTc main) (s₀ m ρ) (fun r => ∀ c : Dev nD,
      r.2.mem ((c : Thread nD τ).loc main_v18) = (fun y => outAt m c (y 0) (y 1) (y 2))) := by
  run_from run_main m ρ
  unfold Pipeline.afterTail₀
  funext y
  obtain ⟨s, u, j, rfl⟩ : ∃ (s : Fin 4096) (u : Fin 200) (j : Fin 256), y = ix3 s u j :=
    ⟨y 0, y 1, y 2, funext fun a => match a with | ⟨0, _⟩ => rfl | ⟨1, _⟩ => rfl | ⟨2, _⟩ => rfl⟩
  have hn : s.val * 200 + u.val < 819200 := by omega
  dsimp only [hostOps1, List.flatten_cons, List.flatten_nil, List.append_nil, List.cons_append, List.nil_append]
  after_reads_at
  exact (congrFun (Pipeline.withArrays_arr spec0 (by decide) c (V0 m c) (fun w => (dats m 0 c).arrAt w cfg0.N) 12) _).trans
    (arr_value m c s u j hn)

end Args

end Cert.KernelIdeal.Own

end
-- ==== Proof.ReferenceIdeal.Terms.lean ====
/-
  The reference's result, cut into small named terms: the three looked-up embeddings, the two projected features, the
  fused rows, their mean and variance, and the normalised rows.
-/
module

public import proofs.«01_k».proof.Proof.Gen.ReferenceIdeal.Run

@[expose] public section

set_option maxRecDepth 16384

noncomputable section

namespace Cert.ReferenceIdeal.Own

open Idealize.ShloMosaic Idealize.ShloMosaic.TcCoe
open Cert.ReferenceIdeal Cert.ReferenceIdeal.Gen

variable {F : FTy → Type} [FloatOps F]

/-! ## The looked-up embeddings -/

/-- A feature as a whole number, clipped to `[0, hi]`. -/
def clipI (hi : BitVec 32) (v : FVec F S4096x200x1 .f32) : IVec S4096x200 32 :=
  minsi (broadcastInDim S4096x200 ![] bcast_S_S4096x200 (id (constantI S_ 32 hi)))
    (maxsi (broadcastInDim S4096x200 ![] bcast_S_S4096x200 (id (constantI S_ 32 0#32)))
      (fptosi 32 (shapeCast S4096x200 v shapeCasts_S4096x200x1_S4096x200)))

/-- An index that counts from the end when negative, in a table of `n` rows. -/
def wrapped (n : BitVec 32) (i : IVec S4096x200 32) : IVec S4096x200x1 32 :=
  broadcastInDim S4096x200x1 ![0, 1] bcast_S4096x200_S4096x200x1_0_1
    (select (cmpi .slt i (broadcastInDim S4096x200 ![] bcast_S_S4096x200 (constantI S_ 32 0#32)))
      (addi i (broadcastInDim S4096x200 ![] bcast_S_S4096x200 (constantI S_ 32 n))) i)

/-- Whether an index lies in `[0, hi]`. -/
def inRange (hi : BitVec 32) (i : IVec S4096x200x1 32) : IVec S4096x200 1 :=
  Host.reduce IntOp.andi
    (andi (cmpi .sge i (broadcastInDim S4096x200x1 ![] bcast_S_S4096x200x1 (constantI S_ 32 0#32)))
      (cmpi .sle i (broadcastInDim S4096x200x1 ![0, 1, 2] bcast_S1x1x1_S4096x200x1_0_1_2
        (broadcastInDim S1x1x1 ![2] bcast_S1_S1x1x1_2 (constantI S1 32 hi)))))
    (constantI S_ 1 1#1) reducesTo_S4096x200x1_S4096x200_d2 h_S_

/-- The first embedding's rows at the given indices. -/
def protoAt (e : FVec F S256x32 .f32) (i : IVec S4096x200x1 32) : FVec F S4096x200x32 .f32 :=
  select (broadcastInDim S4096x200x32 ![0, 1] bcast_S4096x200_S4096x200x32_0_1 (inRange 255#32 i))
    (Host.gather gather_S256x32_S4096x200x1_S4096x200x32_2_0_n_n_0_2_132 e i)
    (broadcastInDim S4096x200x32 ![] bcast_S_S4096x200x32 (constant S_ .f32 0x7FC00000#32))

/-- The second embedding's rows at the given indices. -/
def flagsAt (e : FVec F S64x32 .f32) (i : IVec S4096x200x1 32) : FVec F S4096x200x32 .f32 :=
  select (broadcastInDim S4096x200x32 ![0, 1] bcast_S4096x200_S4096x200x32_0_1 (inRange 63#32 i))
    (Host.gather gather_S64x32_S4096x200x1_S4096x200x32_2_0_n_n_0_2_132 e i)
    (broadcastInDim S4096x200x32 ![] bcast_S_S4096x200x32 (constant S_ .f32 0x7FC00000#32))

/-- The third embedding's rows at the given indices. -/
def dirAt (e : FVec F S2x8 .f32) (i : IVec S4096x200x1 32) : FVec F S4096x200x8 .f32 :=
  select (broadcastInDim S4096x200x8 ![0, 1] bcast_S4096x200_S4096x200x8_0_1 (inRange 1#32 i))
    (Host.gather gather_S2x8_S4096x200x1_S4096x200x8_2_0_n_n_0_2_18 e i)
    (broadcastInDim S4096x200x8 ![] bcast_S_S4096x200x8 (constant S_ .f32 0x7FC00000#32))

/-! ## The rows before the normalisation -/

/-- A feature times a row of weights, and a row added. -/
def project (v : FVec F S4096x200x1 .f32) (w : FVec F S1x32 .f32) (b : FVec F S32 .f32) : FVec F S4096x200x32 .f32 :=
  addf (Host.dotGeneral dot_S4096x200x1_S1x32_S4096x200x32_2_0_01_1_n_n none v w)
    (broadcastInDim S4096x200x32 ![0, 1, 2] bcast_S1x1x32_S4096x200x32_0_1_2 (broadcastInDim S1x1x32 ![2] bcast_S32_S1x1x32_2 b))

/-- The five features of each token side by side. -/
def features (p f : FVec F S4096x200x32 .f32) (d : FVec F S4096x200x8 .f32) (l i : FVec F S4096x200x32 .f32) :
    FVec F S4096x200x136 .f32 :=
  concatenate S4096x200x136 2 [⟨S4096x200x32, p⟩, ⟨S4096x200x32, f⟩, ⟨S4096x200x8, d⟩, ⟨S4096x200x32, l⟩, ⟨S4096x200x32, i⟩]
    concatenates_S4096x200x32_S4096x200x32_S4096x200x8_S4096x200x32_S4096x200x32_S4096x200x136_d2

/-- A row of 256 for every token. -/
def everyTok (b : FVec F S256 .f32) : FVec F S4096x200x256 .f32 :=
  broadcastInDim S4096x200x256 ![0, 1, 2] bcast_S1x1x256_S4096x200x256_0_1_2 (broadcastInDim S1x1x256 ![2] bcast_S256_S1x1x256_2 b)

/-- The fused rows. -/
def fused (x : FVec F S4096x200x136 .f32) (w : FVec F S136x256 .f32) (b : FVec F S256 .f32) : FVec F S4096x200x256 .f32 :=
  addf (Host.dotGeneral dot_S4096x200x136_S136x256_S4096x200x256_2_0_01_1_n_n none x w) (everyTok b)

/-! ## The normalisation -/

/-- The sum of each row. -/
def rowSum (h : FVec F S4096x200x256 .f32) : FVec F S4096x200x1 .f32 :=
  broadcastInDim S4096x200x1 ![0, 1] bcast_S4096x200_S4096x200x1_0_1
    (Host.reduceAdd h (constant S_ .f32 0x00000000#32) reducesTo_S4096x200x256_S4096x200_d2 h_S_)

/-- One number for every token. -/
def everyRow (b : BitVec 32) : FVec F S4096x200x1 .f32 :=
  broadcastInDim S4096x200x1 ![] bcast_S_S4096x200x1 (constant S_ .f32 b)

/-- The rows less their means. -/
def centred (h : FVec F S4096x200x256 .f32) : FVec F S4096x200x256 .f32 :=
  subf h (broadcastInDim S4096x200x256 ![0, 1, 2] bcast_S4096x200x1_S4096x200x256_0_1_2 (Host.divf (rowSum h) (everyRow 0x43800000#32)))

/-- The number of entries of a row that the variance divides by: all 256, less none. -/
def entries : FVec F S_ .f32 := subf (constant S_ .f32 0x43800000#32) (sitofp .f32 (constantI S_ 32 0#32))

/-- The variance of each row. -/
def variance (h : FVec F S4096x200x256 .f32) : FVec F S4096x200x1 .f32 :=
  select (broadcastInDim S4096x200x1 ![] bcast_S_S4096x200x1 (cmpf .ogt (entries (F := F)) (constant S_ .f32 0x00000000#32)))
    (Host.divf (rowSum (mulf (centred h) (centred h))) (broadcastInDim S4096x200x1 ![] bcast_S_S4096x200x1 entries))
    (broadcastInDim S4096x200x1 ![] bcast_S_S4096x200x1 (id (constant S_ .f32 0x7FC00000#32)))

/-- The normalised rows. -/
def normalised (g b : FVec F S256 .f32) (h : FVec F S4096x200x256 .f32) : FVec F S4096x200x256 .f32 :=
  addf (mulf (Host.divf (centred h) (broadcastInDim S4096x200x256 ![0, 1, 2] bcast_S4096x200x1_S4096x200x256_0_1_2
    (Host.sqrt (addf (variance h) (everyRow 0x3727C5AC#32))))) (everyTok g)) (everyTok b)

/-- The fused rows of the arguments. -/
def fusedOf (x : FVec F S4096x200x5 .f32) (ep : FVec F S256x32 .f32) (ef : FVec F S64x32 .f32) (ed : FVec F S2x8 .f32)
    (wl : FVec F S1x32 .f32) (bl : FVec F S32 .f32) (wi : FVec F S1x32 .f32) (bi : FVec F S32 .f32) (wf : FVec F S136x256 .f32)
    (bf : FVec F S256 .f32) : FVec F S4096x200x256 .f32 :=
  fused (features
    (protoAt ep (wrapped 256#32 (clipI 255#32 (extractStridedSlice S4096x200x1 ![0, 0, 0] x slices_S4096x200x5_S4096x200x1_0_0_0))))
    (flagsAt ef (wrapped 64#32 (clipI 63#32 (extractStridedSlice S4096x200x1 ![0, 0, 4] x slices_S4096x200x5_S4096x200x1_0_0_4))))
    (dirAt ed (wrapped 2#32 (clipI 1#32 (extractStridedSlice S4096x200x1 ![0, 0, 3] x slices_S4096x200x5_S4096x200x1_0_0_3))))
    (project (extractStridedSlice S4096x200x1 ![0, 0, 1] x slices_S4096x200x5_S4096x200x1_0_0_1) wl bl)
    (project (extractStridedSlice S4096x200x1 ![0, 0, 2] x slices_S4096x200x5_S4096x200x1_0_0_2) wi bi)) wf bf

/-- The reference's result is the normalised fused rows of its arguments. -/
theorem result_eq (m : (ℓ : Loc nD τ sig) → Buf (Elt F) ℓ) (c : Dev nD) :
    Value.res_main_v47 m c = normalised (m ((c.tc : Thread nD τ).loc main_arg10)) (m ((c.tc : Thread nD τ).loc main_arg11))
      (fusedOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9))) := rfl

end Cert.ReferenceIdeal.Own

end
-- ==== Proof.Math.Lookup.lean ====
/-
  Looking up rows of a table: the rows at an array of indices, read at one entry, and the checks on a small index.
-/
module

public import proofs.«01_k».proof.Proof.Math.Index
public import Idealize.ShloMosaic.Lib.Pointwise

@[expose] public section

noncomputable section

namespace Cert.Own

open Idealize.ShloMosaic

/-! ## The rows at an array of indices -/

section Rows
variable {α : Type} {N C A B : Nat}

/-- Whole rows of a table of `N` rows of `C`, one for each of `A` by `B` indices. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- An index that names row `n` gives the entries of row `n`. -/
theorem row_lookup (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (s : Fin A) (t : Fin B) (j : Fin C) (n : Fin N)
    (h : (idx (ix3 s t (0 : Fin 1))).toInt = (n.val : ℤ)) :
    Host.gather (rowDims N C A B wf) x idx (ix3 s t j) = x (ix2 n j) := by
  have h0 : (rowDims N C A B wf).start (ix3 s t j) idx 0 + (rowDims N C A B wf).offCoord (ix3 s t j) 0 = n.val := by
    rw [GatherDims.offCoord_eq_zero _ _ _ (fun h => ((GatherDims.mem_sKept _ _).mp h).1 (List.mem_singleton.mpr rfl)), Nat.add_zero]
    have e : (rowDims N C A B wf).siIdx (ix3 s t j) ⟨List.idxOf (0 : Fin 2) (rowDims N C A B wf).startIndexMap,
        List.idxOf_lt_length_iff.2 (List.mem_singleton.mpr rfl)⟩ = ix3 s t (0 : Fin 1) := by
      funext b; refine Fin.ext ?_
      match b with
      | ⟨0, _⟩ => rfl
      | ⟨1, _⟩ => rfl
      | ⟨2, _⟩ => rfl
    refine (dif_pos (show (0 : Fin 2) ∈ (rowDims N C A B wf).startIndexMap from List.mem_singleton.mpr rfl)).trans ?_
    rw [e, h]
    show min n.val (N - 1) = n.val
    have := n.isLt
    omega
  have h1 : (rowDims N C A B wf).start (ix3 s t j) idx 1 + (rowDims N C A B wf).offCoord (ix3 s t j) 1 = j.val := by
    have e : (rowDims N C A B wf).start (ix3 s t j) idx 1 = 0 :=
      dif_neg (show ¬(1 : Fin 2) ∈ [(0 : Fin 2)] by decide)
    rw [e, Nat.zero_add]
    exact dif_pos ((GatherDims.mem_sKept _ _).mpr ⟨show ¬(1 : Fin 2) ∈ [(0 : Fin 2)] by decide, List.not_mem_nil⟩)
  unfold Host.gather
  refine congrArg x (funext fun a => Fin.ext ?_)
  show (rowDims N C A B wf).start (ix3 s t j) idx a + (rowDims N C A B wf).batchCoord (ix3 s t j) a
      + (rowDims N C A B wf).offCoord (ix3 s t j) a = _
  rw [GatherDims.batchCoord_eq_zero _ _ _ List.not_mem_nil, Nat.add_zero]
  match a with
  | ⟨0, _⟩ => exact h0
  | ⟨1, _⟩ => exact h1

end Rows

/-! ## A small index -/

/-- A small index is not negative, so it is left as it is. -/
theorem wrap_small (n : ℕ) (h : n < 256) (k : BitVec 32) :
    Scalar.select (IntOp.cmpi .slt (BitVec.ofNat 32 n) 0#32) (IntOp.addi (BitVec.ofNat 32 n) k) (BitVec.ofNat 32 n) = BitVec.ofNat 32 n := by
  have e : IntOp.cmpi .slt (BitVec.ofNat 32 n) 0#32 = 0#1 := by
    show BitVec.ofBool (decide ((BitVec.ofNat 32 n).toInt < 0)) = 0#1
    rw [toInt_small n (by omega), decide_eq_false (by omega)]
    rfl
  rw [e]; rfl

/-- A small index lies in its range. -/
theorem check_small (n hi : ℕ) (h : n ≤ hi) (hh : hi < 256) :
    IntOp.andi (IntOp.cmpi .sge (BitVec.ofNat 32 n) 0#32) (IntOp.cmpi .sle (BitVec.ofNat 32 n) (BitVec.ofNat 32 hi)) = 1#1 := by
  show BitVec.ofBool (decide ((0 : ℤ) ≤ (BitVec.ofNat 32 n).toInt))
    &&& BitVec.ofBool (decide ((BitVec.ofNat 32 n).toInt ≤ (BitVec.ofNat 32 hi).toInt)) = 1#1
  rw [toInt_small n (by omega), toInt_small hi (by omega), decide_eq_true (by omega), decide_eq_true (by omega)]
  rfl

end Cert.Own

end
-- ==== Proof.ReferenceIdeal.Rows.lean ====
/-
  The reference's result over the extended reals, entry by entry: the three looked-up rows, the two projected features,
  their row through the matrix, and the normalised row.
-/
module

public import proofs.«01_k».proof.Proof.ReferenceIdeal.Terms
public import proofs.«01_k».proof.Proof.Math.Lookup
public import proofs.«01_k».proof.Proof.Math.Spec

@[expose] public section

set_option maxRecDepth 16384

noncomputable section

namespace Cert.ReferenceIdeal.Own

open Idealize.ShloMosaic Idealize.ShloMosaic.TcCoe
open Cert.ReferenceIdeal Cert.ReferenceIdeal.Gen Cert.Own

/-! ## The looked-up rows -/

section Index
variable (v : FVec Ideal S4096x200x1 .f32) (s : Fin 4096) (t : Fin 200)

theorem clip_255 : clipI (F := Ideal) 255#32 v (ix2 s t) = BitVec.ofNat 32 (pick 255 (v (ix3 s t (0 : Fin 1)))).val := by
  rw [← clip_word 255 (by omega)]; pointwise [clipI]; rfl
theorem clip_63 : clipI (F := Ideal) 63#32 v (ix2 s t) = BitVec.ofNat 32 (pick 63 (v (ix3 s t (0 : Fin 1)))).val := by
  rw [← clip_word 63 (by omega)]; pointwise [clipI]; rfl
theorem clip_1 : clipI (F := Ideal) 1#32 v (ix2 s t) = BitVec.ofNat 32 (pick 1 (v (ix3 s t (0 : Fin 1)))).val := by
  rw [← clip_word 1 (by omega)]; pointwise [clipI]; rfl

theorem wrapped_small (k : BitVec 32) (i : IVec S4096x200 32) (n : ℕ) (h : n < 256) (hi : i (ix2 s t) = BitVec.ofNat 32 n) :
    wrapped k i (ix3 s t (0 : Fin 1)) = BitVec.ofNat 32 n := by
  refine Eq.trans ?_ (wrap_small n h k)
  rw [← hi]
  pointwise [wrapped]

theorem inRange_small (i : IVec S4096x200x1 32) (n hi : ℕ) (h : n ≤ hi) (hh : hi < 256)
    (he : i (ix3 s t (0 : Fin 1)) = BitVec.ofNat 32 n) : inRange (BitVec.ofNat 32 hi) i (ix2 s t) = 1#1 := by
  pointwise [inRange]
  rw [show (Finset.univ : Finset (Fin 1)) = {0} from rfl, Finset.fold_singleton, he, check_small n hi h hh]
  rfl

end Index

section Lookup
variable (s : Fin 4096) (t : Fin 200) (i : IVec S4096x200x1 32)

/-- The first embedding's row at an index that names row `n`. -/
theorem protoAt_row (e : FVec Ideal S256x32 .f32) (n : Fin 256) (he : i (ix3 s t (0 : Fin 1)) = BitVec.ofNat 32 n.val) (j : Fin 32) :
    protoAt (F := Ideal) e i (ix3 s t j) = e (ix2 n j) := by
  have hr := inRange_small s t i n.val 255 (by omega) (by omega) he
  have hg := row_lookup gather_S256x32_S4096x200x1_S4096x200x32_2_0_n_n_0_2_132_wf e i s t j n
    (by rw [he]; exact toInt_small _ (by omega))
  refine Eq.trans ?_ hg
  pointwise [protoAt]
  rw [hr]
  rfl

/-- The second embedding's row at an index that names row `n`. -/
theorem flagsAt_row (e : FVec Ideal S64x32 .f32) (n : Fin 64) (he : i (ix3 s t (0 : Fin 1)) = BitVec.ofNat 32 n.val) (j : Fin 32) :
    flagsAt (F := Ideal) e i (ix3 s t j) = e (ix2 n j) := by
  have hr := inRange_small s t i n.val 63 (by omega) (by omega) he
  have hg := row_lookup gather_S64x32_S4096x200x1_S4096x200x32_2_0_n_n_0_2_132_wf e i s t j n
    (by rw [he]; exact toInt_small _ (by omega))
  refine Eq.trans ?_ hg
  pointwise [flagsAt]
  rw [hr]
  rfl

/-- The third embedding's row at an index that names row `n`. -/
theorem dirAt_row (e : FVec Ideal S2x8 .f32) (n : Fin 2) (he : i (ix3 s t (0 : Fin 1)) = BitVec.ofNat 32 n.val) (j : Fin 8) :
    dirAt (F := Ideal) e i (ix3 s t j) = e (ix2 n j) := by
  have hr := inRange_small s t i n.val 1 (by omega) (by omega) he
  have hg := row_lookup gather_S2x8_S4096x200x1_S4096x200x8_2_0_n_n_0_2_18_wf e i s t j n
    (by rw [he]; exact toInt_small _ (by omega))
  refine Eq.trans ?_ hg
  pointwise [dirAt]
  rw [hr]
  rfl

end Lookup

/-! ## The fused rows -/

theorem project_row (v : FVec Ideal S4096x200x1 .f32) (w : FVec Ideal S1x32 .f32) (b : FVec Ideal S32 .f32) (s : Fin 4096)
    (t : Fin 200) (j : Fin 32) :
    project (F := Ideal) v w b (ix3 s t j) = v (ix3 s t (0 : Fin 1)) * w (ix2 (0 : Fin 1) j) + b (ix1 j) := by
  pointwise [project]
  rw [Fin.sum_univ_one]

section Fused
variable (p f : FVec Ideal S4096x200x32 .f32) (d : FVec Ideal S4096x200x8 .f32) (l i : FVec Ideal S4096x200x32 .f32)
  (w : FVec Ideal S136x256 .f32) (b : FVec Ideal S256 .f32) (s : Fin 4096) (t : Fin 200)

theorem features_0 (k : Fin 32) : features (F := Ideal) p f d l i (ix3 s t (⟨k.val, by omega⟩ : Fin 136)) = p (ix3 s t k) := by
  pointwise [features]
theorem features_32 (k : Fin 32) : features (F := Ideal) p f d l i (ix3 s t (⟨32 + k.val, by omega⟩ : Fin 136)) = f (ix3 s t k) := by
  pointwise [features]
theorem features_64 (k : Fin 8) : features (F := Ideal) p f d l i (ix3 s t (⟨64 + k.val, by omega⟩ : Fin 136)) = d (ix3 s t k) := by
  pointwise [features]
  rw [dif_neg (by omega), dif_neg (by omega), dif_pos (by omega)]
  exact congrArg (fun q => d (ix3 s t q)) (Fin.ext (by show 64 + k.val - 32 - 32 = k.val; omega))
theorem features_72 (k : Fin 32) : features (F := Ideal) p f d l i (ix3 s t (⟨72 + k.val, by omega⟩ : Fin 136)) = l (ix3 s t k) := by
  pointwise [features]
  rw [dif_neg (by omega), dif_neg (by omega), dif_neg (by omega), dif_pos (by omega)]
  exact congrArg (fun q => l (ix3 s t q)) (Fin.ext (by show 72 + k.val - 32 - 32 - 8 = k.val; omega))
theorem features_104 (k : Fin 32) : features (F := Ideal) p f d l i (ix3 s t (⟨104 + k.val, by omega⟩ : Fin 136)) = i (ix3 s t k) := by
  pointwise [features]
  rw [dif_neg (by omega), dif_neg (by omega), dif_neg (by omega), dif_neg (by omega)]
  exact congrArg (fun q => i (ix3 s t q)) (Fin.ext (by show 104 + k.val - 32 - 32 - 8 - 32 = k.val; omega))

/-- A token's fused row is the sum of its features' rows through their parts of the matrix, and the bias. -/
theorem fused_row (j : Fin 256) : fused (F := Ideal) (features p f d l i) w b (ix3 s t j)
    = featTok (dotRow (fun k => p (ix3 s t k)) (rows32 (fun k j => w (ix2 k j)) 0 (by omega)))
        (dotRow (fun k => f (ix3 s t k)) (rows32 (fun k j => w (ix2 k j)) 32 (by omega)))
        (dotRow (fun k => d (ix3 s t k)) (rows8 (fun k j => w (ix2 k j))))
        (dotRow (fun k => l (ix3 s t k)) (rows32 (fun k j => w (ix2 k j)) 72 (by omega)))
        (dotRow (fun k => i (ix3 s t k)) (rows32 (fun k j => w (ix2 k j)) 104 (by omega))) (fun j => b (ix1 j)) j := by
  have e : fused (F := Ideal) (features p f d l i) w b (ix3 s t j)
      = ∑ k : Fin 136, features p f d l i (ix3 s t k) * w (ix2 k j) + b (ix1 j) := by
    pointwise [fused, everyTok]
  rw [e, sum_136]
  simp only [features_0, features_32, features_64, features_72, features_104]
  unfold featTok dotRow rows32 rows8
  have z : ∀ k : Fin 32, (⟨0 + k.val, by omega⟩ : Fin 136) = ⟨k.val, by omega⟩ := fun k => Fin.ext (Nat.zero_add _)
  simp only [z]

end Fused

theorem featTok_congr {P P' f f' D D' L L' I I' b : Fin 256 → EReal} (hP : P = P') (hf : f = f') (hD : D = D') (hL : L = L')
    (hI : I = I') (j : Fin 256) : featTok P f D L I b j = featTok P' f' D' L' I' b j := by
  rw [hP, hf, hD, hL, hI]

/-- A token's fused row, from the arguments' entries. -/
theorem fusedOf_row (x : FVec Ideal S4096x200x5 .f32) (ep : FVec Ideal S256x32 .f32) (ef : FVec Ideal S64x32 .f32)
    (ed : FVec Ideal S2x8 .f32) (wl : FVec Ideal S1x32 .f32) (bl : FVec Ideal S32 .f32) (wi : FVec Ideal S1x32 .f32)
    (bi : FVec Ideal S32 .f32) (wf : FVec Ideal S136x256 .f32) (bf : FVec Ideal S256 .f32) (s : Fin 4096) (t : Fin 200) (j : Fin 256) :
    fusedOf (F := Ideal) x ep ef ed wl bl wi bi wf bf (ix3 s t j)
      = featRow (fun n k => ep (ix2 n k)) (fun n k => ef (ix2 n k)) (fun n k => ed (ix2 n k)) (fun k => wl (ix2 (0 : Fin 1) k))
          (fun k => bl (ix1 k)) (fun k => wi (ix2 (0 : Fin 1) k)) (fun k => bi (ix1 k)) (fun k j => wf (ix2 k j))
          (fun j => bf (ix1 j)) (fun k => x (ix3 s t k)) j := by
  have x0 : extractStridedSlice S4096x200x1 ![0, 0, 0] x slices_S4096x200x5_S4096x200x1_0_0_0 (ix3 s t (0 : Fin 1)) = x (ix3 s t (0 : Fin 5)) := by
    pointwise
  have x1 : extractStridedSlice S4096x200x1 ![0, 0, 1] x slices_S4096x200x5_S4096x200x1_0_0_1 (ix3 s t (0 : Fin 1)) = x (ix3 s t (1 : Fin 5)) := by
    pointwise
  have x2 : extractStridedSlice S4096x200x1 ![0, 0, 2] x slices_S4096x200x5_S4096x200x1_0_0_2 (ix3 s t (0 : Fin 1)) = x (ix3 s t (2 : Fin 5)) := by
    pointwise
  have x3 : extractStridedSlice S4096x200x1 ![0, 0, 3] x slices_S4096x200x5_S4096x200x1_0_0_3 (ix3 s t (0 : Fin 1)) = x (ix3 s t (3 : Fin 5)) := by
    pointwise
  have x4 : extractStridedSlice S4096x200x1 ![0, 0, 4] x slices_S4096x200x5_S4096x200x1_0_0_4 (ix3 s t (0 : Fin 1)) = x (ix3 s t (4 : Fin 5)) := by
    pointwise
  unfold fusedOf
  rw [fused_row]
  unfold featRow
  refine featTok_congr ?_ ?_ ?_ ?_ ?_ j
  · refine congrArg (dotRow · _) (funext fun k => ?_)
    rw [protoAt_row s t _ ep (pick 255 (x (ix3 s t (0 : Fin 5))))]
    refine wrapped_small s t _ _ _ (by omega) ?_
    rw [clip_255, x0]
  · refine congrArg (dotRow · _) (funext fun k => ?_)
    rw [flagsAt_row s t _ ef (pick 63 (x (ix3 s t (4 : Fin 5))))]
    refine wrapped_small s t _ _ _ (by omega) ?_
    rw [clip_63, x4]
  · refine congrArg (dotRow · _) (funext fun k => ?_)
    rw [dirAt_row s t _ ed (pick 1 (x (ix3 s t (3 : Fin 5))))]
    refine wrapped_small s t _ _ _ (by omega) ?_
    rw [clip_1, x3]
  · refine congrArg (dotRow · _) (funext fun k => ?_)
    rw [project_row, x1]
  · refine congrArg (dotRow · _) (funext fun k => ?_)
    rw [project_row, x2]

/-! ## The normalised rows -/

theorem normalised_row (g b : FVec Ideal S256 .f32) (h : FVec Ideal S4096x200x256 .f32) (s : Fin 4096) (t : Fin 200) (j : Fin 256) :
    normalised (F := Ideal) g b h (ix3 s t j)
      = normH (fun i => h (ix3 s t i)) (fun i => g (ix1 i)) (fun i => b (ix1 i)) j := by
  have z : FloatOps.sitofp (F := Ideal) .f32 (0#32) = (0 : EReal) := by
    show (((0#32 : BitVec 32).toInt : ℝ) : EReal) = 0
    norm_num
  unfold normH
  pointwise [normalised, everyTok, centred, rowSum, everyRow, variance, entries]
  rw [z, bits_256, sub_zero, if_pos (by norm_num)]
  rfl

end Cert.ReferenceIdeal.Own

end
-- ==== Proof.Inputs.lean ====
/-
  What the claim's assumption says of the arguments: the lengths and gaps, the first direction's embedding and the matrix
  rows from 64 on are real.
-/
module

public import proofs.«01_k».proof.Pre_finite
public import proofs.«01_k».proof.Proof.Math.Reals
public import Idealize.ShloMosaic.Lib.Pointwise
public import Idealize.ShloMosaic.Lib.ReduceAll

@[expose] public section

set_option maxRecDepth 16384

noncomputable section

namespace Cert.Own.Inputs

open Idealize.ShloMosaic
open Cert.Pre_finite Cert.Own

variable [Cert.Pre_finite.Facts]
open Cert.Pre_finite.Facts

/-- A value whose size is below infinity is real. -/
theorem real_of_small (a : EReal)
    (h : BitVec.ofBool (decide (FloatOps.absf (F := Ideal) (φ := .f32) a < Ideal.ofBits .f32 0x7F800000#32)) = 1#1) : Fin' a := by
  have hlt : max a (-a) < ⊤ := by
    rw [bits_top] at h
    by_contra hn
    rw [show decide (FloatOps.absf (F := Ideal) (φ := .f32) a < (⊤ : EReal)) = false from decide_eq_false hn] at h
    exact absurd h (by decide)
  induction a with
  | bot => exact absurd hlt (by simp)
  | top => exact absurd hlt (by simp)
  | coe r => exact ⟨r, rfl⟩

section Parts
variable (a0 : FVec Ideal S4096x200x5 .f32) (a3 : FVec Ideal S2x8 .f32) (a8 : FVec Ideal S136x256 .f32)

/-- Whether the lengths and gaps are all real, as one bit. -/
def xBit : IVec S_ 1 :=
  Host.reduce IntOp.andi (cmpf .olt (Host.absf (extractStridedSlice S4096x200x2 ![0, 0, 1] a0 slices_S4096x200x5_S4096x200x2_0_0_1))
    (broadcastInDim S4096x200x2 ![] bcast_S_S4096x200x2 (constant (F := Ideal) S_ .f32 0x7F800000#32)))
    (constantI S_ 1 1#1) reducesTo_S4096x200x2_S_d0_1_2 h_S_
/-- Whether the first direction's embedding is real, as one bit. -/
def dBit : IVec S_ 1 :=
  Host.reduce IntOp.andi (cmpf .olt (Host.absf (shapeCast S8 (extractStridedSlice S1x8 ![0, 0] a3 slices_S2x8_S1x8_0_0) shapeCasts_S1x8_S8))
    (broadcastInDim S8 ![] bcast_S_S8 (constant (F := Ideal) S_ .f32 0x7F800000#32)))
    (constantI S_ 1 1#1) reducesTo_S8_S_d0 h_S_
/-- Whether the matrix rows from 64 on are real, as one bit. -/
def wBit : IVec S_ 1 :=
  Host.reduce IntOp.andi (cmpf .olt (Host.absf (extractStridedSlice S72x256 ![64, 0] a8 slices_S136x256_S72x256_64_0))
    (broadcastInDim S72x256 ![] bcast_S_S72x256 (constant (F := Ideal) S_ .f32 0x7F800000#32)))
    (constantI S_ 1 1#1) reducesTo_S72x256_S_d0_1 h_S_

instance one_bit : Subsingleton S_.Idx := ⟨fun _ _ => funext fun a => a.elim0⟩

theorem x_real (h : xBit a0 ix0 = 1#1) (s : Fin 4096) (t : Fin 200) (k : Fin 2) :
    Fin' (a0 (ix3 s t (⟨1 + k.val, by omega⟩ : Fin 5))) := by
  refine real_of_small _ (Eq.trans ?_ (Host.reduce_andi_all _ _ _ _ _ h (ix3 s t k)))
  pointwise

theorem d_real (h : dBit a3 ix0 = 1#1) (k : Fin 8) : Fin' (a3 (ix2 (0 : Fin 2) k)) := by
  refine real_of_small _ (Eq.trans ?_ (Host.reduce_andi_all _ _ _ _ _ h (ix1 k)))
  pointwise

theorem w_real (h : wBit a8 ix0 = 1#1) (k : Fin 72) (j : Fin 256) :
    Fin' (a8 (ix2 (⟨64 + k.val, by omega⟩ : Fin 136) j)) := by
  refine real_of_small _ (Eq.trans ?_ (Host.reduce_andi_all _ _ _ _ _ h (ix2 k j)))
  pointwise

/-- The assumption, as what it says of the three arguments. -/
theorem reals (a1 : FVec Ideal S256x32 .f32) (a2 : FVec Ideal S64x32 .f32) (a4 : FVec Ideal S1x32 .f32) (a5 : FVec Ideal S32 .f32)
    (a6 : FVec Ideal S1x32 .f32) (a7 : FVec Ideal S32 .f32) (a9 a10 a11 : FVec Ideal S256 .f32)
    (h : fn (F := Ideal) a0 a1 a2 a3 a4 a5 a6 a7 a8 a9 a10 a11 = fun _ => 1#1) :
    (∀ s t, Fin' (a0 (ix3 s t (1 : Fin 5))) ∧ Fin' (a0 (ix3 s t (2 : Fin 5)))) ∧ (∀ k, Fin' (a3 (ix2 (0 : Fin 2) k)))
      ∧ ∀ k : Fin 136, 64 ≤ k.val → ∀ j, Fin' (a8 (ix2 k j)) := by
  have h0 : IntOp.andi (IntOp.andi (xBit a0 ix0) (dBit a3 ix0)) (wBit a8 ix0) = 1#1 := congrFun h ix0
  obtain ⟨h1, hw⟩ := IntOp.andi_eq_one.1 h0
  obtain ⟨hx, hd⟩ := IntOp.andi_eq_one.1 h1
  refine ⟨fun s t => ⟨x_real a0 hx s t 0, x_real a0 hx s t 1⟩, d_real a3 hd, fun k hk j => ?_⟩
  have := w_real a8 hw ⟨k.val - 64, by omega⟩ j
  rwa [show (⟨64 + (k.val - 64), by omega⟩ : Fin 136) = k from Fin.ext (by show 64 + (k.val - 64) = k.val; omega)] at this

end Parts

end Cert.Own.Inputs

end
-- ==== Proof.Equal.lean ====
/-
  The kernel's result and the reference's are the same array, when the arguments are the same and the assumption holds.
-/
module

public import proofs.«01_k».proof.Proof.KernelIdeal.Output
public import proofs.«01_k».proof.Proof.ReferenceIdeal.Rows
public import proofs.«01_k».proof.Proof.Inputs

@[expose] public section

set_option maxRecDepth 16384

noncomputable section

namespace Cert.Own

open Idealize.ShloMosaic Idealize.ShloMosaic.TcCoe

section Results
variable [Cert.Pre_finite.Facts]
variable (m : (ℓ : Loc Cert.KernelIdeal.nD Cert.KernelIdeal.τ Cert.KernelIdeal.sig) → Buf (Elt Ideal) ℓ) (c : Dev Cert.KernelIdeal.nD)

/-- Under the assumption the kernel's rows are the normalised fused rows. -/
theorem results_eq
    (h : Cert.Pre_finite.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6))
      (m ((c : Thread Cert.KernelIdeal.nD Cert.KernelIdeal.τ).loc Cert.KernelIdeal.main_arg7))
      (m ((c : Thread Cert.KernelIdeal.nD Cert.KernelIdeal.τ).loc Cert.KernelIdeal.main_arg8))
      (m ((c : Thread Cert.KernelIdeal.nD Cert.KernelIdeal.τ).loc Cert.KernelIdeal.main_arg9))
      (m ((c : Thread Cert.KernelIdeal.nD Cert.KernelIdeal.τ).loc Cert.KernelIdeal.main_arg10))
      (m ((c : Thread Cert.KernelIdeal.nD Cert.KernelIdeal.τ).loc Cert.KernelIdeal.main_arg11)) = fun _ => 1#1) :
    (fun y : (⟨3, ![4096, 200, 256]⟩ : Shape).Idx => Cert.KernelIdeal.Own.outAt m c (y 0) (y 1) (y 2))
      = Cert.ReferenceIdeal.Own.normalised (F := Ideal) (m ((c : Thread Cert.KernelIdeal.nD Cert.KernelIdeal.τ).loc Cert.KernelIdeal.main_arg10))
        (m ((c : Thread Cert.KernelIdeal.nD Cert.KernelIdeal.τ).loc Cert.KernelIdeal.main_arg11))
        (Cert.ReferenceIdeal.Own.fusedOf (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7))
          (m ((c : Thread Cert.KernelIdeal.nD Cert.KernelIdeal.τ).loc Cert.KernelIdeal.main_arg8))
          (m ((c : Thread Cert.KernelIdeal.nD Cert.KernelIdeal.τ).loc Cert.KernelIdeal.main_arg9))) := by
  obtain ⟨hx, hd, hw⟩ := Inputs.reals _ _ _ _ _ _ _ _ _ _ _ _ h
  funext y
  obtain ⟨s, t, j, rfl⟩ : ∃ (s : Fin 4096) (t : Fin 200) (j : Fin 256), y = ix3 s t j :=
    ⟨y 0, y 1, y 2, funext fun a => match a with | ⟨0, _⟩ => rfl | ⟨1, _⟩ => rfl | ⟨2, _⟩ => rfl⟩
  refine Eq.trans ?_ (Cert.ReferenceIdeal.Own.normalised_row _ _ _ s t j).symm
  simp only [Cert.ReferenceIdeal.Own.fusedOf_row]
  exact rows_agree _ _ _ _ _ _ _ _ _ _ _ _ (hx s t).1 (hx s t).2 hd hw j

end Results

end Cert.Own

end
-- ==== Proof.lean ====
/-
  The proof of `Cert.Claim`: the two kernels' frames are those of the launches in Proof/Kernel and Proof/KernelIdeal, the
  reference's is its generated run's, nothing was rewritten between the kernel and its idealized copy, and over the extended
  reals the kernel's result is the reference's (Proof/Equal.lean).
-/
module

public import proofs.«01_k».proof.Defs
public import proofs.«01_k».proof.Proof.Kernel.Run
public import proofs.«01_k».proof.Proof.KernelIdeal.Run
public import proofs.«01_k».proof.Proof.Equal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init

@[expose] public section

noncomputable section

namespace Cert.Proof

open Idealize.ShloMosaic Idealize.SL.Sem

/-- Every run of the reference ends with its arguments unchanged and its semaphores at zero. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Under the assumption, the kernel and the reference end with the same result. -/
theorem results : Cert.algebraic_KernelIdeal_ReferenceIdeal_pre_finite := by
  intro m ρ m' ρ' hpre hag
  refine ⟨fun c y => Cert.KernelIdeal.Own.outAt m c (y 0) (y 1) (y 2), ?_, ?_⟩
  · run_from (Cert.KernelIdeal.Own.run_value m ρ) & (Cert.KernelIdeal.Own.frame m ρ)
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8, e9, e10, e11⟩ := hag c
    rw [Cert.ReferenceIdeal.Own.result_eq, e0, e1, e2, e3, e4, e5, e6, e7, e8, e9, e10, e11]
    exact (Cert.Own.results_eq m c (hpre c)).symm

theorem claim : Cert.Claim :=
  ⟨Cert.Kernel.Gen.facts, Cert.KernelIdeal.Gen.facts, Cert.ReferenceIdeal.Gen.facts, Cert.Pre_finite.Gen.facts,
    fun m ρ _ => Cert.Kernel.Own.frame m ρ, fun m ρ _ => Cert.KernelIdeal.Own.frame m ρ, fun m ρ _ => Cert.KernelIdeal.Own.frame m ρ,
    frame_ref, fun m ρ _ => frame_ref m ρ trivial, trivial, results⟩

end Cert.Proof

end
